-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1x8x256x256 : Shape := ⟨5, ![2, 1, 8, 256, 256]⟩
abbrev S_ : Shape := ⟨0, ![]⟩

class Facts : Prop where
  bcast_S_S2x1x8x256x256 : S_.BroadcastsInDim S2x1x8x256x256 (![] : Fin 0 → Fin S2x1x8x256x256.rank)
  reducesTo_S2x1x8x256x256_S_d0_1_2_3_4 : S2x1x8x256x256.ReducesTo [0, 1, 2, 3, 4] S_
  h_S_ : 0 < S_.numel

variable [Facts]

def fn {F : FTy → Type} [FloatOps F] (main_arg0 : FVec F S2x1x8x256x256 .f32) : IVec S_ 1 :=
  let main_v0 : FVec F S2x1x8x256x256 .f32 := Host.absf main_arg0
  let main_cst : FVec F S_ .f32 := constant S_ .f32 0x7F800000#32
  let main_v1 : FVec F S2x1x8x256x256 .f32 := broadcastInDim S2x1x8x256x256 ![] bcast_S_S2x1x8x256x256 main_cst
  let main_v2 : IVec S2x1x8x256x256 1 := cmpf .olt main_v0 main_v1
  let main_c : IVec S_ 1 := constantI S_ 1 1#1
  let main_v3 : IVec S_ 1 := (fun x v => Host.reduce IntOp.andi x v reducesTo_S2x1x8x256x256_S_d0_1_2_3_4 h_S_) main_v2 main_c
  main_v3
-- ==== Kernel.lean ====
abbrev S2x1x8x256x256 : Shape := ⟨5, ![2, 1, 8, 256, 256]⟩
abbrev S2x1x3x8x256x256 : Shape := ⟨6, ![2, 1, 3, 8, 256, 256]⟩
abbrev S1x1x8x8x256 : Shape := ⟨5, ![1, 1, 8, 8, 256]⟩
abbrev S1x1x8x64x256 : Shape := ⟨5, ![1, 1, 8, 64, 256]⟩
abbrev S1x1x3x8x64x256 : Shape := ⟨6, ![1, 1, 3, 8, 64, 256]⟩
abbrev S8x64x256 : Shape := ⟨3, ![8, 64, 256]⟩
abbrev S1x1x8x1x256 : Shape := ⟨5, ![1, 1, 8, 1, 256]⟩
abbrev S8x1x256 : Shape := ⟨3, ![8, 1, 256]⟩
abbrev S8x63x256 : Shape := ⟨3, ![8, 63, 256]⟩
abbrev S8x64x255 : Shape := ⟨3, ![8, 64, 255]⟩
abbrev S8x64x1 : Shape := ⟨3, ![8, 64, 1]⟩
abbrev S7x64x256 : Shape := ⟨3, ![7, 64, 256]⟩
abbrev S1x64x256 : Shape := ⟨3, ![1, 64, 256]⟩
abbrev S1x1x1x8x64x256 : Shape := ⟨6, ![1, 1, 1, 8, 64, 256]⟩

abbrev nBuf : Space → Nat
  | .hbm => 3
  | .vmem => 10
  | .smem => 0
  | _ => 0

abbrev bufTy : (tb : Table) → Fin (tcTables nBuf tb) → BufTy
  | .hbm, ⟨0, _⟩ => ⟨S2x1x8x256x256, .f32⟩
  | .hbm, ⟨1, _⟩ => ⟨S2x1x3x8x256x256, .f32⟩
  | .hbm, ⟨2, _⟩ => ⟨S2x1x8x256x256, .f32⟩
  | .local _ .vmem, ⟨0, _⟩ => ⟨S1x1x8x8x256, .f32⟩
  | .local _ .vmem, ⟨1, _⟩ => ⟨S1x1x8x8x256, .f32⟩
  | .local _ .vmem, ⟨2, _⟩ => ⟨S1x1x8x64x256, .f32⟩
  | .local _ .vmem, ⟨3, _⟩ => ⟨S1x1x8x64x256, .f32⟩
  | .local _ .vmem, ⟨4, _⟩ => ⟨S1x1x8x8x256, .f32⟩
  | .local _ .vmem, ⟨5, _⟩ => ⟨S1x1x8x8x256, .f32⟩
  | .local _ .vmem, ⟨6, _⟩ => ⟨S1x1x3x8x64x256, .f32⟩
  | .local _ .vmem, ⟨7, _⟩ => ⟨S1x1x3x8x64x256, .f32⟩
  | .local _ .vmem, ⟨8, _⟩ => ⟨S1x1x8x64x256, .f32⟩
  | .local _ .vmem, ⟨9, _⟩ => ⟨S1x1x8x64x256, .f32⟩
  | _, _ => ⟨S2x1x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, c0_i32_1.toNat, v2.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, v2.toNat, c0_i32_1.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, arg1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x1x8x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x8x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x1x8x256x256 : Shape := ⟨5, ![2, 1, 8, 256, 256]⟩
abbrev S2x1x1x256x256 : Shape := ⟨5, ![2, 1, 1, 256, 256]⟩
abbrev S2x1x10x256x256 : Shape := ⟨5, ![2, 1, 10, 256, 256]⟩
abbrev S2x1x10x1x256 : Shape := ⟨5, ![2, 1, 10, 1, 256]⟩
abbrev S2x1x10x258x256 : Shape := ⟨5, ![2, 1, 10, 258, 256]⟩
abbrev S2x1x10x258x1 : Shape := ⟨5, ![2, 1, 10, 258, 1]⟩
abbrev S2x1x10x258x258 : Shape := ⟨5, ![2, 1, 10, 258, 258]⟩
abbrev S_ : Shape := ⟨0, ![]⟩
abbrev S2x1x1x8x256x256 : Shape := ⟨6, ![2, 1, 1, 8, 256, 256]⟩
abbrev S2x1x3x8x256x256 : Shape := ⟨6, ![2, 1, 3, 8, 256, 256]⟩

abbrev nBuf : Space → Nat
  | .hbm => 268
  | .vmem => 0
  | .smem => 0
  | _ => 0

abbrev hbmTy0_0 (i : Nat) : BufTy := match i % 128 with
  | 0 => ⟨S2x1x8x256x256, .f32⟩
  | 1 => ⟨S2x1x1x256x256, .f32⟩
  | 2 => ⟨S2x1x1x256x256, .f32⟩
  | 3 => ⟨S2x1x10x256x256, .f32⟩
  | 4 => ⟨S2x1x10x1x256, .f32⟩
  | 5 => ⟨S2x1x10x1x256, .f32⟩
  | 6 => ⟨S2x1x10x258x256, .f32⟩
  | 7 => ⟨S2x1x10x258x1, .f32⟩
  | 8 => ⟨S2x1x10x258x1, .f32⟩
  | 9 => ⟨S2x1x10x258x258, .f32⟩
  | 10 => ⟨S2x1x8x256x256, .f32⟩
  | 11 => ⟨S2x1x8x256x256, .f32⟩
  | 12 => ⟨S2x1x8x256x256, .f32⟩
  | 13 => ⟨S_, .f32⟩
  | 14 => ⟨S2x1x8x256x256, .f32⟩
  | 15 => ⟨S2x1x8x256x256, .f32⟩
  | 16 => ⟨S2x1x8x256x256, .f32⟩
  | 17 => ⟨S2x1x8x256x256, .f32⟩
  | 18 => ⟨S2x1x8x256x256, .f32⟩
  | 19 => ⟨S_, .f32⟩
  | 20 => ⟨S2x1x8x256x256, .f32⟩
  | 21 => ⟨S2x1x8x256x256, .f32⟩
  | 22 => ⟨S2x1x8x256x256, .f32⟩
  | 23 => ⟨S2x1x8x256x256, .f32⟩
  | 24 => ⟨S2x1x8x256x256, .f32⟩
  | 25 => ⟨S_, .f32⟩
  | 26 => ⟨S2x1x8x256x256, .f32⟩
  | 27 => ⟨S2x1x8x256x256, .f32⟩
  | 28 => ⟨S2x1x8x256x256, .f32⟩
  | 29 => ⟨S_, .f32⟩
  | 30 => ⟨S2x1x8x256x256, .f32⟩
  | 31 => ⟨S2x1x8x256x256, .f32⟩
  | 32 => ⟨S2x1x8x256x256, .f32⟩
  | 33 => ⟨S2x1x8x256x256, .f32⟩
  | 34 => ⟨S2x1x8x256x256, .f32⟩
  | 35 => ⟨S2x1x8x256x256, .f32⟩
  | 36 => ⟨S_, .f32⟩
  | 37 => ⟨S2x1x8x256x256, .f32⟩
  | 38 => ⟨S2x1x8x256x256, .f32⟩
  | 39 => ⟨S2x1x8x256x256, .f32⟩
  | 40 => ⟨S2x1x8x256x256, .f32⟩
  | 41 => ⟨S2x1x8x256x256, .f32⟩
  | 42 => ⟨S2x1x8x256x256, .f32⟩
  | 43 => ⟨S_, .f32⟩
  | 44 => ⟨S2x1x8x256x256, .f32⟩
  | 45 => ⟨S2x1x8x256x256, .f32⟩
  | 46 => ⟨S2x1x8x256x256, .f32⟩
  | 47 => ⟨S2x1x8x256x256, .f32⟩
  | 48 => ⟨S2x1x8x256x256, .f32⟩
  | 49 => ⟨S2x1x8x256x256, .f32⟩
  | 50 => ⟨S2x1x8x256x256, .f32⟩
  | 51 => ⟨S2x1x8x256x256, .f32⟩
  | 52 => ⟨S2x1x8x256x256, .f32⟩
  | 53 => ⟨S2x1x8x256x256, .f32⟩
  | 54 => ⟨S2x1x8x256x256, .f32⟩
  | 55 => ⟨S2x1x8x256x256, .f32⟩
  | 56 => ⟨S_, .f32⟩
  | 57 => ⟨S2x1x8x256x256, .f32⟩
  | 58 => ⟨S2x1x8x256x256, .f32⟩
  | 59 => ⟨S2x1x8x256x256, .f32⟩
  | 60 => ⟨S2x1x8x256x256, .f32⟩
  | 61 => ⟨S2x1x8x256x256, .f32⟩
  | 62 => ⟨S2x1x8x256x256, .f32⟩
  | 63 => ⟨S2x1x8x256x256, .f32⟩
  | 64 => ⟨S2x1x8x256x256, .f32⟩
  | 65 => ⟨S2x1x8x256x256, .f32⟩
  | 66 => ⟨S_, .f32⟩
  | 67 => ⟨S2x1x8x256x256, .f32⟩
  | 68 => ⟨S2x1x8x256x256, .f32⟩
  | 69 => ⟨S2x1x8x256x256, .f32⟩
  | 70 => ⟨S2x1x8x256x256, .f32⟩
  | 71 => ⟨S2x1x8x256x256, .f32⟩
  | 72 => ⟨S2x1x8x256x256, .f32⟩
  | 73 => ⟨S2x1x8x256x256, .f32⟩
  | 74 => ⟨S2x1x8x256x256, .f32⟩
  | 75 => ⟨S2x1x8x256x256, .f32⟩
  | 76 => ⟨S_, .f32⟩
  | 77 => ⟨S2x1x8x256x256, .f32⟩
  | 78 => ⟨S2x1x8x256x256, .f32⟩
  | 79 => ⟨S_, .f32⟩
  | 80 => ⟨S_, .f32⟩
  | 81 => ⟨S2x1x10x258x258, .f32⟩
  | 82 => ⟨S_, .f32⟩
  | 83 => ⟨S2x1x8x256x256, .f32⟩
  | 84 => ⟨S2x1x8x256x256, .f32⟩
  | 85 => ⟨S2x1x8x256x256, .f32⟩
  | 86 => ⟨S2x1x8x256x256, .f32⟩
  | 87 => ⟨S2x1x8x256x256, .f32⟩
  | 88 => ⟨S2x1x8x256x256, .f32⟩
  | 89 => ⟨S2x1x8x256x256, .f32⟩
  | 90 => ⟨S2x1x8x256x256, .f32⟩
  | 91 => ⟨S2x1x8x256x256, .f32⟩
  | 92 => ⟨S2x1x8x256x256, .f32⟩
  | 93 => ⟨S2x1x8x256x256, .f32⟩
  | 94 => ⟨S2x1x8x256x256, .f32⟩
  | 95 => ⟨S2x1x8x256x256, .f32⟩
  | 96 => ⟨S2x1x8x256x256, .f32⟩
  | 97 => ⟨S2x1x8x256x256, .f32⟩
  | 98 => ⟨S2x1x8x256x256, .f32⟩
  | 99 => ⟨S2x1x8x256x256, .f32⟩
  | 100 => ⟨S2x1x8x256x256, .f32⟩
  | 101 => ⟨S2x1x8x256x256, .f32⟩
  | 102 => ⟨S2x1x8x256x256, .f32⟩
  | 103 => ⟨S2x1x8x256x256, .f32⟩
  | 104 => ⟨S2x1x8x256x256, .f32⟩
  | 105 => ⟨S2x1x8x256x256, .f32⟩
  | 106 => ⟨S2x1x8x256x256, .f32⟩
  | 107 => ⟨S2x1x8x256x256, .f32⟩
  | 108 => ⟨S2x1x8x256x256, .f32⟩
  | 109 => ⟨S2x1x8x256x256, .f32⟩
  | 110 => ⟨S2x1x8x256x256, .f32⟩
  | 111 => ⟨S2x1x8x256x256, .f32⟩
  | 112 => ⟨S2x1x8x256x256, .f32⟩
  | 113 => ⟨S2x1x8x256x256, .f32⟩
  | 114 => ⟨S2x1x8x256x256, .f32⟩
  | 115 => ⟨S2x1x8x256x256, .f32⟩
  | 116 => ⟨S2x1x8x256x256, .f32⟩
  | 117 => ⟨S2x1x8x256x256, .f32⟩
  | 118 => ⟨S2x1x8x256x256, .f32⟩
  | 119 => ⟨S2x1x8x256x256, .f32⟩
  | 120 => ⟨S2x1x8x256x256, .f32⟩
  | 121 => ⟨S2x1x8x256x256, .f32⟩
  | 122 => ⟨S2x1x8x256x256, .f32⟩
  | 123 => ⟨S2x1x8x256x256, .f32⟩
  | 124 => ⟨S2x1x8x256x256, .f32⟩
  | 125 => ⟨S2x1x8x256x256, .f32⟩
  | 126 => ⟨S2x1x8x256x256, .f32⟩
  | 127 => ⟨S2x1x8x256x256, .f32⟩
  | _ => ⟨S2x1x8x256x256, .f32⟩

abbrev hbmTy0_1 (i : Nat) : BufTy := match i % 128 with
  | 0 => ⟨S2x1x8x256x256, .f32⟩
  | 1 => ⟨S2x1x8x256x256, .f32⟩
  | 2 => ⟨S2x1x8x256x256, .f32⟩
  | 3 => ⟨S2x1x8x256x256, .f32⟩
  | 4 => ⟨S2x1x8x256x256, .f32⟩
  | 5 => ⟨S2x1x8x256x256, .f32⟩
  | 6 => ⟨S2x1x8x256x256, .f32⟩
  | 7 => ⟨S2x1x8x256x256, .f32⟩
  | 8 => ⟨S2x1x8x256x256, .i1⟩
  | 9 => ⟨S2x1x8x256x256, .f32⟩
  | 10 => ⟨S2x1x8x256x256, .f32⟩
  | 11 => ⟨S2x1x8x256x256, .i1⟩
  | 12 => ⟨S2x1x8x256x256, .f32⟩
  | 13 => ⟨S2x1x8x256x256, .f32⟩
  | 14 => ⟨S2x1x8x256x256, .f32⟩
  | 15 => ⟨S2x1x8x256x256, .f32⟩
  | 16 => ⟨S2x1x8x256x256, .f32⟩
  | 17 => ⟨S2x1x8x256x256, .f32⟩
  | 18 => ⟨S2x1x8x256x256, .f32⟩
  | 19 => ⟨S2x1x8x256x256, .f32⟩
  | 20 => ⟨S2x1x8x256x256, .f32⟩
  | 21 => ⟨S2x1x8x256x256, .f32⟩
  | 22 => ⟨S2x1x8x256x256, .i1⟩
  | 23 => ⟨S2x1x8x256x256, .f32⟩
  | 24 => ⟨S2x1x8x256x256, .f32⟩
  | 25 => ⟨S2x1x8x256x256, .f32⟩
  | 26 => ⟨S2x1x8x256x256, .f32⟩
  | 27 => ⟨S2x1x8x256x256, .f32⟩
  | 28 => ⟨S2x1x8x256x256, .f32⟩
  | 29 => ⟨S2x1x8x256x256, .f32⟩
  | 30 => ⟨S2x1x8x256x256, .f32⟩
  | 31 => ⟨S2x1x8x256x256, .f32⟩
  | 32 => ⟨S2x1x8x256x256, .f32⟩
  | 33 => ⟨S2x1x8x256x256, .f32⟩
  | 34 => ⟨S2x1x8x256x256, .f32⟩
  | 35 => ⟨S2x1x8x256x256, .f32⟩
  | 36 => ⟨S2x1x8x256x256, .f32⟩
  | 37 => ⟨S2x1x8x256x256, .f32⟩
  | 38 => ⟨S2x1x8x256x256, .f32⟩
  | 39 => ⟨S2x1x8x256x256, .f32⟩
  | 40 => ⟨S2x1x8x256x256, .f32⟩
  | 41 => ⟨S2x1x8x256x256, .f32⟩
  | 42 => ⟨S2x1x8x256x256, .f32⟩
  | 43 => ⟨S2x1x8x256x256, .f32⟩
  | 44 => ⟨S2x1x8x256x256, .f32⟩
  | 45 => ⟨S2x1x8x256x256, .f32⟩
  | 46 => ⟨S2x1x8x256x256, .f32⟩
  | 47 => ⟨S2x1x8x256x256, .f32⟩
  | 48 => ⟨S2x1x8x256x256, .f32⟩
  | 49 => ⟨S2x1x8x256x256, .f32⟩
  | 50 => ⟨S2x1x8x256x256, .f32⟩
  | 51 => ⟨S2x1x8x256x256, .i1⟩
  | 52 => ⟨S2x1x8x256x256, .f32⟩
  | 53 => ⟨S2x1x8x256x256, .f32⟩
  | 54 => ⟨S2x1x8x256x256, .f32⟩
  | 55 => ⟨S2x1x8x256x256, .f32⟩
  | 56 => ⟨S2x1x8x256x256, .f32⟩
  | 57 => ⟨S2x1x8x256x256, .f32⟩
  | 58 => ⟨S2x1x8x256x256, .f32⟩
  | 59 => ⟨S2x1x8x256x256, .f32⟩
  | 60 => ⟨S2x1x8x256x256, .f32⟩
  | 61 => ⟨S2x1x8x256x256, .f32⟩
  | 62 => ⟨S2x1x8x256x256, .f32⟩
  | 63 => ⟨S2x1x8x256x256, .f32⟩
  | 64 => ⟨S2x1x8x256x256, .f32⟩
  | 65 => ⟨S2x1x8x256x256, .f32⟩
  | 66 => ⟨S2x1x8x256x256, .f32⟩
  | 67 => ⟨S2x1x8x256x256, .f32⟩
  | 68 => ⟨S2x1x8x256x256, .f32⟩
  | 69 => ⟨S2x1x8x256x256, .f32⟩
  | 70 => ⟨S2x1x8x256x256, .f32⟩
  | 71 => ⟨S2x1x8x256x256, .f32⟩
  | 72 => ⟨S2x1x8x256x256, .f32⟩
  | 73 => ⟨S2x1x8x256x256, .f32⟩
  | 74 => ⟨S2x1x8x256x256, .f32⟩
  | 75 => ⟨S2x1x8x256x256, .f32⟩
  | 76 => ⟨S2x1x8x256x256, .f32⟩
  | 77 => ⟨S2x1x8x256x256, .f32⟩
  | 78 => ⟨S_, .f32⟩
  | 79 => ⟨S_, .f32⟩
  | 80 => ⟨S2x1x8x256x256, .f32⟩
  | 81 => ⟨S2x1x8x256x256, .f32⟩
  | 82 => ⟨S2x1x8x256x256, .f32⟩
  | 83 => ⟨S_, .f32⟩
  | 84 => ⟨S_, .f32⟩
  | 85 => ⟨S2x1x8x256x256, .f32⟩
  | 86 => ⟨S2x1x8x256x256, .f32⟩
  | 87 => ⟨S2x1x8x256x256, .f32⟩
  | 88 => ⟨S_, .f32⟩
  | 89 => ⟨S_, .f32⟩
  | 90 => ⟨S2x1x8x256x256, .f32⟩
  | 91 => ⟨S2x1x8x256x256, .f32⟩
  | 92 => ⟨S2x1x8x256x256, .f32⟩
  | 93 => ⟨S2x1x8x256x256, .f32⟩
  | 94 => ⟨S2x1x8x256x256, .f32⟩
  | 95 => ⟨S2x1x8x256x256, .f32⟩
  | 96 => ⟨S2x1x8x256x256, .f32⟩
  | 97 => ⟨S2x1x8x256x256, .f32⟩
  | 98 => ⟨S_, .f32⟩
  | 99 => ⟨S2x1x8x256x256, .f32⟩
  | 100 => ⟨S2x1x8x256x256, .i1⟩
  | 101 => ⟨S_, .f32⟩
  | 102 => ⟨S_, .f32⟩
  | 103 => ⟨S2x1x8x256x256, .f32⟩
  | 104 => ⟨S2x1x8x256x256, .f32⟩
  | 105 => ⟨S_, .f32⟩
  | 106 => ⟨S_, .f32⟩
  | 107 => ⟨S2x1x8x256x256, .f32⟩
  | 108 => ⟨S2x1x8x256x256, .f32⟩
  | 109 => ⟨S_, .f32⟩
  | 110 => ⟨S_, .f32⟩
  | 111 => ⟨S2x1x8x256x256, .f32⟩
  | 112 => ⟨S2x1x8x256x256, .f32⟩
  | 113 => ⟨S2x1x8x256x256, .f32⟩
  | 114 => ⟨S2x1x8x256x256, .f32⟩
  | 115 => ⟨S2x1x8x256x256, .f32⟩
  | 116 => ⟨S2x1x8x256x256, .f32⟩
  | 117 => ⟨S2x1x8x256x256, .f32⟩
  | 118 => ⟨S_, .f32⟩
  | 119 => ⟨S2x1x8x256x256, .f32⟩
  | 120 => ⟨S2x1x8x256x256, .f32⟩
  | 121 => ⟨S2x1x8x256x256, .f32⟩
  | 122 => ⟨S2x1x8x256x256, .f32⟩
  | 123 => ⟨S_, .f32⟩
  | 124 => ⟨S2x1x8x256x256, .f32⟩
  | 125 => ⟨S2x1x8x256x256, .f32⟩
  | 126 => ⟨S2x1x8x256x256, .f32⟩
  | 127 => ⟨S2x1x8x256x256, .i32⟩
  | _ => ⟨S2x1x8x256x256, .f32⟩

abbrev hbmTy0_2 (i : Nat) : BufTy := match i % 128 with
  | 0 => ⟨S2x1x8x256x256, .f32⟩
  | 1 => ⟨S2x1x8x256x256, .i32⟩
  | 2 => ⟨S2x1x8x256x256, .f32⟩
  | 3 => ⟨S2x1x8x256x256, .i32⟩
  | 4 => ⟨S2x1x8x256x256, .f32⟩
  | 5 => ⟨S2x1x8x256x256, .f32⟩
  | 6 => ⟨S2x1x8x256x256, .f32⟩
  | 7 => ⟨S2x1x8x256x256, .f32⟩
  | 8 => ⟨S2x1x1x8x256x256, .f32⟩
  | 9 => ⟨S2x1x1x8x256x256, .f32⟩
  | 10 => ⟨S2x1x1x8x256x256, .f32⟩
  | 11 => ⟨S2x1x3x8x256x256, .f32⟩
  | _ => ⟨S2x1x8x256x256, .f32⟩

abbrev hbmTy (i : Nat) : BufTy := match i / 128 with
  | 0 => hbmTy0_0 i
  | 1 => hbmTy0_1 i
  | 2 => hbmTy0_2 i
  | _ => ⟨S2x1x8x256x256, .f32⟩

abbrev bufTy : (tb : Table) → Fin (tcTables nBuf tb) → BufTy
  | .hbm, ⟨i, _⟩ => hbmTy i
  | _, _ => ⟨S2x1x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_2 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_3 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_4 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_5 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_6 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_7 : Ref sig .tc := ⟨.hbm, 76, rfl⟩
abbrev main_v67 : Ref sig .tc := ⟨.hbm, 77, rfl⟩
abbrev main_v68 : Ref sig .tc := ⟨.hbm, 78, rfl⟩
abbrev main_cst_8 : Ref sig .tc := ⟨.hbm, 79, rfl⟩
abbrev main_call0_v0 : Ref sig .tc := ⟨.hbm, 80, rfl⟩
abbrev main_v69 : Ref sig .tc := ⟨.hbm, 81, rfl⟩
abbrev main_cst_9 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_cst_10 : Ref sig .tc := ⟨.hbm, 206, rfl⟩
abbrev main_call25_v0 : Ref sig .tc := ⟨.hbm, 207, rfl⟩
abbrev main_call25_v1 : Ref sig .tc := ⟨.hbm, 208, rfl⟩
abbrev main_v193 : Ref sig .tc := ⟨.hbm, 209, rfl⟩
abbrev main_v194 : Ref sig .tc := ⟨.hbm, 210, rfl⟩
abbrev main_cst_11 : Ref sig .tc := ⟨.hbm, 211, rfl⟩
abbrev main_call26_v0 : Ref sig .tc := ⟨.hbm, 212, rfl⟩
abbrev main_call26_v1 : Ref sig .tc := ⟨.hbm, 213, rfl⟩
abbrev main_v195 : Ref sig .tc := ⟨.hbm, 214, rfl⟩
abbrev main_v196 : Ref sig .tc := ⟨.hbm, 215, rfl⟩
abbrev main_cst_12 : Ref sig .tc := ⟨.hbm, 216, rfl⟩
abbrev main_call27_v0 : Ref sig .tc := ⟨.hbm, 217, rfl⟩
abbrev main_call27_v1 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_cst_13 : Ref sig .tc := ⟨.hbm, 226, rfl⟩
abbrev main_v204 : Ref sig .tc := ⟨.hbm, 227, rfl⟩
abbrev main_v205 : Ref sig .tc := ⟨.hbm, 228, rfl⟩
abbrev main_cst_14 : Ref sig .tc := ⟨.hbm, 229, rfl⟩
abbrev main_call28_v0 : Ref sig .tc := ⟨.hbm, 230, rfl⟩
abbrev main_call28_v1 : Ref sig .tc := ⟨.hbm, 231, rfl⟩
abbrev main_v206 : Ref sig .tc := ⟨.hbm, 232, rfl⟩
abbrev main_cst_15 : Ref sig .tc := ⟨.hbm, 233, rfl⟩
abbrev main_call29_v0 : Ref sig .tc := ⟨.hbm, 234, rfl⟩
abbrev main_call29_v1 : Ref sig .tc := ⟨.hbm, 235, rfl⟩
abbrev main_v207 : Ref sig .tc := ⟨.hbm, 236, rfl⟩
abbrev main_cst_16 : Ref sig .tc := ⟨.hbm, 237, rfl⟩
abbrev main_call30_v0 : Ref sig .tc := ⟨.hbm, 238, rfl⟩
abbrev main_call30_v1 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_cst_17 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_cst_18 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩

abbrev nD : Nat := 1
abbrev τ : Topo := Topo.v7x

variable {F : FTy → Type} [FloatOps F]
-- ==== Proof.Elim.lean ====
/-
  Gaussian elimination with partial pivoting on a symmetric 3×3 system, over the extended reals, as the reference
  writes it, and what it gives when the system's entries are real numbers: the solution of the system when the
  determinant is not zero, and an infinite entry when it is zero.
-/
module

public import Idealize.ShloMosaic.PureOps.Ideal
public import Idealize.ShloMosaic.PureOps.IdealRules
public import Mathlib.Tactic.Ring
public import Mathlib.Tactic.FieldSimp
public import Mathlib.Tactic.LinearCombination

@[expose] public section

noncomputable section

namespace Cert.Proof

open Idealize.ShloMosaic

/-! ## Extended reals -/

/-- The absolute value as the programs take it. -/
abbrev mag (x : EReal) : EReal := max x (-x)

/-- On a real number it is the absolute value. -/
theorem mag_coe (x : ℝ) : mag (x : EReal) = ((|x| : ℝ) : EReal) := by
  rw [abs_eq_max_neg, mag, ← EReal.coe_neg]
  exact (EReal.coe_strictMono.monotone.map_max).symm

/-- A negation does not change it. -/
theorem mag_neg (x : EReal) : mag (-x) = mag x := by
  unfold mag
  rw [neg_neg, max_comm]

/-- Comparing two of them compares the absolute values. -/
theorem mag_lt_mag (x y : ℝ) : mag (x : EReal) < mag (y : EReal) ↔ |x| < |y| := by
  rw [mag_coe, mag_coe, EReal.coe_lt_coe_iff]

/-- A quotient of real numbers with a divisor other than zero is the real quotient. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- `v` is one of the two infinities. -/
def Infinite (v : EReal) : Prop := v = ⊤ ∨ v = ⊥

/-- A quotient by zero is infinite. -/
theorem div_zero_infinite (x : EReal) : Infinite (Ideal.div x ((0 : ℝ) : EReal)) := by
  unfold Ideal.div Infinite
  rw [if_pos EReal.coe_zero]
  by_cases h : 0 < x
  · exact .inl (if_pos h)
  · exact .inr (if_neg h)

/-- An infinity's absolute value is above every real number's. -/
theorem mag_infinite {v : EReal} (h : Infinite v) : mag v = ⊤ := by
  rcases h with rfl | rfl <;> simp [mag]

/-! ## Rows of the system and the elimination's steps -/

/-- One row of the system: the three coefficients and the right side. -/
structure Row where
  x : EReal
  y : EReal
  z : EReal
  g : EReal

/-- A row of real numbers. -/
def Row.ofReal (a b c d : ℝ) : Row := ⟨a, b, c, d⟩

/-- Column 1's pivot row of two rows: the one whose first coefficient is larger in absolute value. -/
def top (p q : Row) : Row :=
  ⟨if mag p.x < mag q.x then q.x else p.x, if mag p.x < mag q.x then q.y else p.y,
    if mag p.x < mag q.x then q.z else p.z, if mag p.x < mag q.x then q.g else p.g⟩

/-- The other one of the two rows. -/
def low (p q : Row) : Row :=
  ⟨if mag p.x < mag q.x then p.x else q.x, if mag p.x < mag q.x then p.y else q.y,
    if mag p.x < mag q.x then p.z else q.z, if mag p.x < mag q.x then p.g else q.g⟩

/-- The row `q` less the multiple of the row `p` that clears its first coefficient. -/
def cut (p q : Row) : Row :=
  ⟨q.x - Ideal.div q.x p.x * p.x, q.y - Ideal.div q.x p.x * p.y, q.z - Ideal.div q.x p.x * p.z,
    q.g - Ideal.div q.x p.x * p.g⟩

/-- Column 2's pivot row of two rows. -/
def top2 (p q : Row) : Row :=
  ⟨if mag p.y < mag q.y then q.x else p.x, if mag p.y < mag q.y then q.y else p.y,
    if mag p.y < mag q.y then q.z else p.z, if mag p.y < mag q.y then q.g else p.g⟩

/-- The other one of the two rows. -/
def low2 (p q : Row) : Row :=
  ⟨if mag p.y < mag q.y then p.x else q.x, if mag p.y < mag q.y then p.y else q.y,
    if mag p.y < mag q.y then p.z else q.z, if mag p.y < mag q.y then p.g else q.g⟩

/-- The last unknown from the two rows left after column 1. -/
def last (q d : Row) : EReal :=
  Ideal.div (d.g - Ideal.div d.y q.y * q.g) (d.z - Ideal.div d.y q.y * q.z)

/-- The second unknown, the third being `v2`. -/
def middle (q : Row) (v2 : EReal) : EReal := Ideal.div (q.g - q.z * v2) q.y

/-- The first unknown, the other two being `v1` and `v2`. -/
def first (p : Row) (v1 v2 : EReal) : EReal := Ideal.div (p.g - p.y * v1 - p.z * v2) p.x

/-! ## What the steps give on real numbers -/

/-- The pivot row where the second row's first coefficient is larger. -/
theorem top_of_lt (p q : Row) (h : mag p.x < mag q.x) : top p q = q := by simp only [top, if_pos h]
/-- The pivot row where it is not. -/
theorem top_of_not (p q : Row) (h : ¬ mag p.x < mag q.x) : top p q = p := by simp only [top, if_neg h]
/-- The other row where the second row's first coefficient is larger. -/
theorem low_of_lt (p q : Row) (h : mag p.x < mag q.x) : low p q = p := by simp only [low, if_pos h]
/-- The other row where it is not. -/
theorem low_of_not (p q : Row) (h : ¬ mag p.x < mag q.x) : low p q = q := by simp only [low, if_neg h]
/-- Column 2's pivot row where the second row's coefficient is larger. -/
theorem top2_of_lt (p q : Row) (h : mag p.y < mag q.y) : top2 p q = q := by simp only [top2, if_pos h]
/-- Column 2's pivot row where it is not. -/
theorem top2_of_not (p q : Row) (h : ¬ mag p.y < mag q.y) : top2 p q = p := by simp only [top2, if_neg h]
/-- The other row where the second row's coefficient is larger. -/
theorem low2_of_lt (p q : Row) (h : mag p.y < mag q.y) : low2 p q = p := by simp only [low2, if_pos h]
/-- The other row where it is not. -/
theorem low2_of_not (p q : Row) (h : ¬ mag p.y < mag q.y) : low2 p q = q := by simp only [low2, if_neg h]

/-- The determinant of three rows of coefficients. -/
def det (a b c d e f g h i : ℝ) : ℝ := a * (e * i - f * h) - b * (d * i - f * g) + c * (d * h - e * g)

/-- What an elimination may give on rows of real numbers with determinant `D`: the solution of the system (`S`) where
    `D` is not zero, an infinity among the three values where `D` is zero. -/
def Outcome (D : ℝ) (S : ℝ → ℝ → ℝ → Prop) (v0 v1 v2 : EReal) : Prop :=
  (D ≠ 0 ∧ ∃ x y z : ℝ, v0 = x ∧ v1 = y ∧ v2 = z ∧ S x y z) ∨ (D = 0 ∧ (Infinite v0 ∨ Infinite v1 ∨ Infinite v2))

/-- An outcome for rows in one order is an outcome for them in another: the determinant changes its sign at most. -/
theorem Outcome.of_iff {D D' : ℝ} {S S' : ℝ → ℝ → ℝ → Prop} {v0 v1 v2 : EReal} (h : Outcome D S v0 v1 v2)
    (hD : D' = D ∨ D' = -D) (hS : ∀ x y z, S x y z → S' x y z) : Outcome D' S' v0 v1 v2 := by
  rcases h with ⟨h, x, y, z, hx, hy, hz, hs⟩ | ⟨h, hi⟩
  · refine .inl ⟨?_, x, y, z, hx, hy, hz, hS _ _ _ hs⟩
    rcases hD with rfl | rfl
    · exact h
    · exact neg_ne_zero.2 h
  · refine .inr ⟨?_, hi⟩
    rcases hD with rfl | rfl
    · exact h
    · rw [h, neg_zero]

/-- The 2×2 system left after column 1, rows in pivot order. -/
theorem two_rows (a b g c d k x y : ℝ) (h : |c| ≤ |a|) :
    Outcome (a * d - b * c) (fun _ y z => a * y + b * z = g ∧ c * y + d * z = k)
      ((0 : ℝ) : EReal) (middle (Row.ofReal x a b g) (last (Row.ofReal x a b g) (Row.ofReal y c d k)))
      (last (Row.ofReal x a b g) (Row.ofReal y c d k)) := by
  by_cases ha : a = 0
  · subst ha
    have hc : c = 0 := by rw [abs_zero] at h; exact abs_nonpos_iff.1 h
    subst hc
    exact .inr ⟨by ring, .inr (.inl (div_zero_infinite _))⟩
  · have hl : last (Row.ofReal x a b g) (Row.ofReal y c d k)
        = Ideal.div ((k - c / a * g : ℝ) : EReal) ((d - c / a * b : ℝ) : EReal) := by
      simp only [last, Row.ofReal]
      rw [div_coe _ _ ha]
      norm_cast
    rw [hl]
    by_cases hd : d - c / a * b = 0
    · rw [hd]
      refine .inr ⟨?_, .inr (.inr (div_zero_infinite _))⟩
      have : a * (d - c / a * b) = a * d - b * c := by field_simp
      rw [← this, hd, mul_zero]
    · rw [div_coe _ _ hd]
      have hm : middle (Row.ofReal x a b g) (((k - c / a * g) / (d - c / a * b) : ℝ) : EReal)
          = (((g - b * ((k - c / a * g) / (d - c / a * b))) / a : ℝ) : EReal) := by
        simp only [middle, Row.ofReal]
        rw [← div_coe _ _ ha]
        norm_cast
      rw [hm]
      have hD : a * (d - c / a * b) = a * d - b * c := by field_simp
      refine .inl ⟨?_, 0, _, _, rfl, rfl, rfl, ?_, ?_⟩
      · rw [← hD]; exact mul_ne_zero ha hd
      · field_simp; ring
      · generalize hz : (k - c / a * g) / (d - c / a * b) = z
        have hz' : z * (d - c / a * b) = k - c / a * g := by rw [← hz]; exact div_mul_cancel₀ _ hd
        linear_combination hz'

/-- The 2×2 system left after column 1, rows in either order. -/
theorem two_rows_any (a b g c d k x y : ℝ) :
    Outcome (a * d - b * c) (fun _ y z => a * y + b * z = g ∧ c * y + d * z = k)
      ((0 : ℝ) : EReal)
      (middle (top2 (Row.ofReal x a b g) (Row.ofReal y c d k))
        (last (top2 (Row.ofReal x a b g) (Row.ofReal y c d k)) (low2 (Row.ofReal x a b g) (Row.ofReal y c d k))))
      (last (top2 (Row.ofReal x a b g) (Row.ofReal y c d k)) (low2 (Row.ofReal x a b g) (Row.ofReal y c d k))) := by
  by_cases h : mag (Row.ofReal x a b g).y < mag (Row.ofReal y c d k).y
  · rw [top2_of_lt _ _ h, low2_of_lt _ _ h]
    have h' : |a| < |c| := (mag_lt_mag a c).1 h
    exact (two_rows c d k a b g y x h'.le).of_iff (.inr (by ring)) fun _ _ _ h => ⟨h.2, h.1⟩
  · rw [top2_of_not _ _ h, low2_of_not _ _ h]
    have h' : ¬ |a| < |c| := fun hh => h ((mag_lt_mag a c).2 hh)
    exact two_rows a b g c d k x y (not_lt.1 h')

/-- The three unknowns from three rows of which `p` is column 1's pivot row. -/
def solved (p q r : Row) : EReal × EReal × EReal :=
  (first p (middle (top2 (cut p q) (cut p r)) (last (top2 (cut p q) (cut p r)) (low2 (cut p q) (cut p r))))
      (last (top2 (cut p q) (cut p r)) (low2 (cut p q) (cut p r))),
    middle (top2 (cut p q) (cut p r)) (last (top2 (cut p q) (cut p r)) (low2 (cut p q) (cut p r))),
    last (top2 (cut p q) (cut p r)) (low2 (cut p q) (cut p r)))

/-- A row of real numbers cleared by a row whose first coefficient is not zero. -/
theorem cut_coe (a b c d e f g h : ℝ) (ha : a ≠ 0) :
    cut (Row.ofReal a b c d) (Row.ofReal e f g h)
      = Row.ofReal (e - e / a * a) (f - e / a * b) (g - e / a * c) (h - e / a * d) := by
  simp only [cut, Row.ofReal]
  rw [div_coe _ _ ha]
  simp only [EReal.coe_sub, EReal.coe_mul]

/-- Three rows of real numbers, the first one column 1's pivot row. -/
theorem three_rows (a b c g0 d e f g1 h i j g2 : ℝ) (hd : |d| ≤ |a|) (hh : |h| ≤ |a|) :
    Outcome (det a b c d e f h i j)
      (fun x y z => a * x + b * y + c * z = g0 ∧ d * x + e * y + f * z = g1 ∧ h * x + i * y + j * z = g2)
      (solved (Row.ofReal a b c g0) (Row.ofReal d e f g1) (Row.ofReal h i j g2)).1
      (solved (Row.ofReal a b c g0) (Row.ofReal d e f g1) (Row.ofReal h i j g2)).2.1
      (solved (Row.ofReal a b c g0) (Row.ofReal d e f g1) (Row.ofReal h i j g2)).2.2 := by
  by_cases ha : a = 0
  · subst ha
    rw [abs_zero] at hd hh
    have hd' : d = 0 := abs_nonpos_iff.1 hd
    have hh' : h = 0 := abs_nonpos_iff.1 hh
    subst hd' hh'
    exact .inr ⟨by unfold det; ring, .inl (div_zero_infinite _)⟩
  · simp only [solved, cut_coe _ _ _ _ _ _ _ _ ha]
    have H := two_rows_any (e - d / a * b) (f - d / a * c) (g1 - d / a * g0) (i - h / a * b) (j - h / a * c)
      (g2 - h / a * g0) (d - d / a * a) (h - h / a * a)
    generalize middle _ _ = v1 at H ⊢
    generalize last _ _ = v2 at H ⊢
    have hD : det a b c d e f h i j
        = a * ((e - d / a * b) * (j - h / a * c) - (f - d / a * c) * (i - h / a * b)) := by
      unfold det; field_simp; ring
    rcases H with ⟨hn, x, y, z, -, rfl, rfl, h1, h2⟩ | ⟨hz, hi⟩
    · refine .inl ⟨by rw [hD]; exact mul_ne_zero ha hn, (g0 - b * y - c * z) / a, y, z, ?_, rfl, rfl, ?_, ?_, ?_⟩
      · simp only [first, Row.ofReal]
        rw [← div_coe _ _ ha]
        norm_cast
      · field_simp; ring
      · field_simp
        field_simp at h1
        linear_combination h1
      · field_simp
        field_simp at h2
        linear_combination h2
    · refine .inr ⟨by rw [hD, hz, mul_zero], ?_⟩
      rcases hi with hi | hi | hi
      · exfalso; rcases hi with hi | hi
        · exact EReal.coe_ne_top _ hi
        · exact EReal.coe_ne_bot _ hi
      · exact .inr (.inl hi)
      · exact .inr (.inr hi)

/-- The elimination on three rows: column 1's pivot row found by two comparisons, then `solved`. -/
def elim (r0 r1 r2 : Row) : EReal × EReal × EReal :=
  solved (top (top r0 r1) r2) (low r0 r1) (low (top r0 r1) r2)

/-- THE ELIMINATION ON REAL NUMBERS: the solution of the system where its determinant is not zero; an infinity among
    the three values where it is zero. -/
theorem elim_outcome (a b c g0 d e f g1 h i j g2 : ℝ) :
    Outcome (det a b c d e f h i j)
      (fun x y z => a * x + b * y + c * z = g0 ∧ d * x + e * y + f * z = g1 ∧ h * x + i * y + j * z = g2)
      (elim (Row.ofReal a b c g0) (Row.ofReal d e f g1) (Row.ofReal h i j g2)).1
      (elim (Row.ofReal a b c g0) (Row.ofReal d e f g1) (Row.ofReal h i j g2)).2.1
      (elim (Row.ofReal a b c g0) (Row.ofReal d e f g1) (Row.ofReal h i j g2)).2.2 := by
  have lt_iff : ∀ a b c d e f g h : ℝ, mag (Row.ofReal a b c d).x < mag (Row.ofReal e f g h).x ↔ |a| < |e| :=
    fun a b c d e f g h => mag_lt_mag a e
  unfold elim
  by_cases h1 : |a| < |d|
  · rw [top_of_lt _ _ ((lt_iff ..).2 h1), low_of_lt _ _ ((lt_iff ..).2 h1)]
    by_cases h2 : |d| < |h|
    · rw [top_of_lt _ _ ((lt_iff ..).2 h2), low_of_lt _ _ ((lt_iff ..).2 h2)]
      exact (three_rows h i j g2 a b c g0 d e f g1 (h1.trans h2).le h2.le).of_iff (.inl (by unfold det; ring))
        fun _ _ _ s => ⟨s.2.1, s.2.2, s.1⟩
    · rw [top_of_not _ _ (mt (lt_iff ..).1 h2), low_of_not _ _ (mt (lt_iff ..).1 h2)]
      exact (three_rows d e f g1 a b c g0 h i j g2 h1.le (not_lt.1 h2)).of_iff (.inr (by unfold det; ring))
        fun _ _ _ s => ⟨s.2.1, s.1, s.2.2⟩
  · rw [top_of_not _ _ (mt (lt_iff ..).1 h1), low_of_not _ _ (mt (lt_iff ..).1 h1)]
    by_cases h2 : |a| < |h|
    · rw [top_of_lt _ _ ((lt_iff ..).2 h2), low_of_lt _ _ ((lt_iff ..).2 h2)]
      exact (three_rows h i j g2 d e f g1 a b c g0 ((not_lt.1 h1).trans h2.le) h2.le).of_iff
        (.inr (by unfold det; ring)) fun _ _ _ s => ⟨s.2.2, s.2.1, s.1⟩
    · rw [top_of_not _ _ (mt (lt_iff ..).1 h2), low_of_not _ _ (mt (lt_iff ..).1 h2)]
      exact three_rows a b c g0 d e f g1 h i j g2 (not_lt.1 h1) (not_lt.1 h2)

end Cert.Proof

end
-- ==== Proof.Refine.lean ====
/-
  One sample's refinement, twice: as the kernel computes it from the sample's 27 neighbours and as the reference does,
  and the equality of the two where the neighbours are real numbers.
-/
module

public import proofs.«01_k».proof.Proof.Elim
public import Idealize.ShloMosaic.Lib.Pointwise

@[expose] public section

noncomputable section

namespace Cert.Proof

open Idealize.ShloMosaic

/-! ## The constants -/

/-- One half. -/
abbrev cHalf : EReal := Ideal.ofBits .f32 0x3F000000#32
/-- One quarter. -/
abbrev cQuarter : EReal := Ideal.ofBits .f32 0x3E800000#32
/-- Two. -/
abbrev cTwo : EReal := Ideal.ofBits .f32 0x40000000#32
/-- Minus two. -/
abbrev cMinusTwo : EReal := Ideal.ofBits .f32 0xC0000000#32
/-- The largest displacement kept: the binary32 number 0.7. -/
abbrev cLimit : EReal := Ideal.ofBits .f32 0x3F333333#32
/-- The bonus added at a maximum: ten. -/
abbrev cTen : EReal := Ideal.ofBits .f32 0x41200000#32

/-- The word of one half is one half. -/
theorem cHalf_eq : cHalf = ((1 / 2 : ℝ) : EReal) := by
  simp [cHalf, Ideal.ofBits, Ideal.ieee]; norm_num [← EReal.coe_mul, ← EReal.coe_inv]
/-- The word of one quarter is one quarter. -/
theorem cQuarter_eq : cQuarter = ((1 / 4 : ℝ) : EReal) := by
  simp [cQuarter, Ideal.ofBits, Ideal.ieee]; norm_num [← EReal.coe_mul, ← EReal.coe_inv]
/-- The word of two is two. -/
theorem cTwo_eq : cTwo = ((2 : ℝ) : EReal) := by
  simp [cTwo, Ideal.ofBits, Ideal.ieee]; norm_num [← EReal.coe_mul, ← EReal.coe_inv]
/-- The word of minus two is minus two. -/
theorem cMinusTwo_eq : cMinusTwo = ((-2 : ℝ) : EReal) := by
  simp [cMinusTwo, Ideal.ofBits, Ideal.ieee]; norm_num [← EReal.coe_mul, ← EReal.coe_inv]
/-- The limit is a real number. -/
theorem cLimit_real : ∃ l : ℝ, cLimit = l := by
  simp [cLimit, Ideal.ofBits, Ideal.ieee]; exact ⟨_, (EReal.coe_mul _ _).symm⟩
/-- The word of minus infinity is the least extended real. -/
theorem cNegInf_eq : Ideal.ofBits .f32 0xFF800000#32 = ⊥ := by simp [Ideal.ofBits, Ideal.ieee]
/-- The word of plus infinity is the greatest extended real. -/
theorem cPosInf_eq : Ideal.ofBits .f32 0x7F800000#32 = ⊤ := by simp [Ideal.ofBits, Ideal.ieee]

/-! ## Clipping a displacement -/

/-- A select on a comparison's bit is the conditional on the comparison. -/
theorem select_ofBool (p : Prop) [Decidable p] (x y : EReal) :
    Scalar.select (BitVec.ofBool (decide p)) x y = if p then x else y := by
  by_cases h : p <;> simp [Scalar.select, h]

/-- THE TWO CLIPPINGS AGREE. `v` is what the elimination gave, `N` the kernel's numerators, `D` the determinant: the
    kernel's displacement `N / (-2 D)` kept where `M` holds and no component is above the limit, and the reference's
    `-v` at `M`, set to zero where a component is above the limit, are the same three real numbers. -/
theorem clip_eq (D N0 N1 N2 : ℝ) (v0 v1 v2 : EReal) (M : BitVec 1) (S : ℝ → ℝ → ℝ → Prop)
    (hO : Outcome D S v0 v1 v2)
    (hS : ∀ x y z, S x y z → N0 = 2 * D * x ∧ N1 = 2 * D * y ∧ N2 = 2 * D * z)
    (w0 w1 w2 n0 n1 n2 : EReal) (keep far : BitVec 1)
    (hw0 : w0 = N0 * Ideal.div 1 (((-2 * D : ℝ)) : EReal)) (hw1 : w1 = N1 * Ideal.div 1 (((-2 * D : ℝ)) : EReal))
    (hw2 : w2 = N2 * Ideal.div 1 (((-2 * D : ℝ)) : EReal))
    (hn0 : n0 = -Scalar.select M v0 0) (hn1 : n1 = -Scalar.select M v1 0) (hn2 : n2 = -Scalar.select M v2 0)
    (hkeep : keep = IntOp.andi M (BitVec.ofBool (decide (max (max (mag w0) (mag w1)) (mag w2) ≤ cLimit))))
    (hfar : far = BitVec.ofBool (decide (cLimit < max (max (mag n0) (mag n1)) (mag n2)))) :
    ∃ x y z : ℝ, (Scalar.select keep w0 0 = x ∧ Scalar.select keep w1 0 = y ∧ Scalar.select keep w2 0 = z)
      ∧ Scalar.select far 0 n0 = x ∧ Scalar.select far 0 n1 = y ∧ Scalar.select far 0 n2 = z := by
  obtain ⟨l, hl⟩ := cLimit_real
  rcases BitVec.eq_zero_or_eq_one M with rfl | rfl
  · have hk : keep = 0#1 := by rw [hkeep]; exact BitVec.zero_and
    have e0 : n0 = 0 := by rw [hn0]; simp [Scalar.select]
    have e1 : n1 = 0 := by rw [hn1]; simp [Scalar.select]
    have e2 : n2 = 0 := by rw [hn2]; simp [Scalar.select]
    refine ⟨0, 0, 0, ?_, ?_⟩
    · rw [hk]; simp [Scalar.select]
    · rw [e0, e1, e2]; simp [Scalar.select]
  · have hk : keep = BitVec.ofBool (decide (max (max (mag w0) (mag w1)) (mag w2) ≤ cLimit)) := by
      rw [hkeep]
      by_cases h : max (max (mag w0) (mag w1)) (mag w2) ≤ cLimit <;> simp only [h, decide_true, decide_false] <;> rfl
    have e0 : n0 = -v0 := by rw [hn0]; simp [Scalar.select]
    have e1 : n1 = -v1 := by rw [hn1]; simp [Scalar.select]
    have e2 : n2 = -v2 := by rw [hn2]; simp [Scalar.select]
    rw [hk, hfar]
    simp only [select_ofBool]
    rcases hO with ⟨hD, x, y, z, rfl, rfl, rfl, hs⟩ | ⟨hD, hi⟩
    · obtain ⟨h0, h1, h2⟩ := hS x y z hs
      have hw : ∀ (N x : ℝ), N = 2 * D * x → (N : EReal) * Ideal.div 1 (((-2 * D : ℝ)) : EReal) = ((-x : ℝ) : EReal) := by
        intro N x hN
        rw [show (1 : EReal) = ((1 : ℝ) : EReal) from rfl, div_coe _ _ (by simpa using hD), ← EReal.coe_mul, hN]
        congr 1
        field_simp
      rw [hw _ _ h0] at hw0
      rw [hw _ _ h1] at hw1
      rw [hw _ _ h2] at hw2
      have f0 : n0 = w0 := by rw [e0, hw0, EReal.coe_neg]
      have f1 : n1 = w1 := by rw [e1, hw1, EReal.coe_neg]
      have f2 : n2 = w2 := by rw [e2, hw2, EReal.coe_neg]
      rw [f0, f1, f2]
      by_cases h : max (max (mag w0) (mag w1)) (mag w2) ≤ cLimit
      · simp only [if_pos h, if_neg (not_lt.2 h)]
        exact ⟨-x, -y, -z, ⟨hw0, hw1, hw2⟩, hw0, hw1, hw2⟩
      · simp only [if_neg h, if_pos (not_le.1 h)]
        exact ⟨0, 0, 0, ⟨rfl, rfl, rfl⟩, rfl, rfl, rfl⟩
    · refine ⟨0, 0, 0, ?_, ?_⟩
      · have hd : Ideal.div 1 (((-2 * D : ℝ)) : EReal) = ⊤ := by
          rw [hD]; simp [Ideal.div]
        rw [hd] at hw0 hw1 hw2
        by_cases h : max (max (mag w0) (mag w1)) (mag w2) ≤ cLimit
        · simp only [if_pos h]
          have hz : ∀ (N : ℝ) (w : EReal), w = N * ⊤ → mag w ≤ cLimit → w = ((0 : ℝ) : EReal) := by
            intro N w hw hm
            rw [hl] at hm
            rcases lt_trichotomy N 0 with hN | hN | hN
            · rw [EReal.coe_mul_top_of_neg hN] at hw
              rw [mag_infinite (.inr hw)] at hm
              exact absurd hm (not_le.2 (EReal.coe_lt_top l))
            · rw [hw, hN, EReal.coe_zero, zero_mul]
            · rw [EReal.coe_mul_top_of_pos hN] at hw
              rw [mag_infinite (.inl hw)] at hm
              exact absurd hm (not_le.2 (EReal.coe_lt_top l))
          have hm := max_le_iff.1 h
          exact ⟨hz _ _ hw0 (max_le_iff.1 hm.1).1, hz _ _ hw1 (max_le_iff.1 hm.1).2, hz _ _ hw2 hm.2⟩
        · simp only [if_neg h]
          exact ⟨rfl, rfl, rfl⟩
      · have hf : cLimit < max (max (mag n0) (mag n1)) (mag n2) := by
          rw [e0, e1, e2, mag_neg, mag_neg, mag_neg, hl]
          rcases hi with hi | hi | hi
          · rw [mag_infinite hi]; simp
          · rw [mag_infinite hi]; simp
          · rw [mag_infinite hi]; simp
        simp only [if_pos hf]
        exact ⟨rfl, rfl, rfl⟩

/-! ## The kernel's refinement of one sample -/

/-- The 3×3×3 neighbours of a sample: offset by plane, row and column, the sample itself at `1 1 1`. -/
abbrev Nbrs := ℕ → ℕ → ℕ → EReal

section Kernel
variable (e n : Nbrs)

/-- The kernel's differences along the columns, the rows and the planes: twice the gradient. -/
def kcx : EReal := e 1 1 2 - e 1 1 0
/-- The difference along the rows. -/
def kcy : EReal := e 1 2 1 - e 1 0 1
/-- The difference along the planes. -/
def kcz : EReal := e 2 1 1 - e 0 1 1
/-- The kernel's second differences. -/
def kxx : EReal := e 1 1 2 + e 1 1 0 - cTwo * e 1 1 1
/-- The second difference along the rows. -/
def kyy : EReal := e 1 2 1 + e 1 0 1 - cTwo * e 1 1 1
/-- The second difference along the planes. -/
def kss : EReal := e 2 1 1 + e 0 1 1 - cTwo * e 1 1 1
/-- The mixed difference of columns and rows. -/
def kxy : EReal := cQuarter * (e 1 2 2 - e 1 0 2 - (e 1 2 0 - e 1 0 0))
/-- The mixed difference of rows and planes. -/
def kys : EReal := cQuarter * (e 2 2 1 - e 2 0 1 - (e 0 2 1 - e 0 0 1))
/-- The mixed difference of columns and planes. -/
def kxs : EReal := cQuarter * (e 2 1 2 - e 2 1 0 - (e 0 1 2 - e 0 1 0))
/-- The cofactors of the symmetric matrix. -/
def k11 : EReal := kyy e * kss e - kys e * kys e
/-- The cofactor of columns and rows. -/
def k12 : EReal := kys e * kxs e - kxy e * kss e
/-- The cofactor of columns and planes. -/
def k13 : EReal := kxy e * kys e - kyy e * kxs e
/-- The cofactor of the rows. -/
def k22 : EReal := kxx e * kss e - kxs e * kxs e
/-- The cofactor of rows and planes. -/
def k23 : EReal := kxy e * kxs e - kxx e * kys e
/-- The cofactor of the planes. -/
def k33 : EReal := kxx e * kyy e - kxy e * kxy e
/-- One over minus twice the determinant. -/
def kinv : EReal := Ideal.div 1 (cMinusTwo * (kxx e * k11 e + kxy e * k12 e + kxs e * k13 e))
/-- The displacement along the columns, the rows and the planes before the clipping. -/
def kw0 : EReal := (k11 e * kcx e + k12 e * kcy e + k13 e * kcz e) * kinv e
/-- The displacement along the rows before the clipping. -/
def kw1 : EReal := (k12 e * kcx e + k22 e * kcy e + k23 e * kcz e) * kinv e
/-- The displacement along the planes before the clipping. -/
def kw2 : EReal := (k13 e * kcx e + k23 e * kcy e + k33 e * kcz e) * kinv e
/-- The largest of three neighbours in one column of one plane. -/
def krow (p s : ℕ) : EReal := max (max (n p 2 s) (n p 1 s)) (n p 0 s)
/-- The largest of the eight neighbours around the middle of a plane, and the largest of the nine. -/
def k8 (p : ℕ) : EReal := max (max (krow n p 2) (krow n p 0)) (max (n p 2 1) (n p 0 1))
/-- The largest of a plane's nine. -/
def k9 (p : ℕ) : EReal := max (k8 n p) (n p 1 1)
/-- The largest of the 26 neighbours. -/
def kpeak : EReal := max (k8 n 1) (max (k9 n 2) (k9 n 0))
/-- Whether the sample is above all its neighbours. -/
def kmask : BitVec 1 := BitVec.ofBool (decide (kpeak n < e 1 1 1))
/-- Whether the displacement is kept. -/
def kkeep : BitVec 1 :=
  IntOp.andi (kmask e n) (BitVec.ofBool (decide (max (max (mag (kw0 e)) (mag (kw1 e))) (mag (kw2 e)) ≤ cLimit)))
/-- The displacement. -/
def kd0 : EReal := Scalar.select (kkeep e n) (kw0 e) 0
/-- The displacement along the rows. -/
def kd1 : EReal := Scalar.select (kkeep e n) (kw1 e) 0
/-- The displacement along the planes. -/
def kd2 : EReal := Scalar.select (kkeep e n) (kw2 e) 0
/-- The refined value. -/
def ky : EReal :=
  e 1 1 1 + cQuarter * (kcx e * kd0 e n + kcy e * kd1 e n + kcz e * kd2 e n)
    + cTen * FloatOps.sitofp (F := Ideal) .f32 (BitVec.setWidth 32 (kmask e n))

end Kernel

/-! ## The reference's refinement of one sample -/

section Reference
variable (e n : Nbrs)

/-- The gradient. -/
def rgx : EReal := cHalf * (e 1 1 2 - e 1 1 0)
/-- The gradient along the rows. -/
def rgy : EReal := cHalf * (e 1 2 1 - e 1 0 1)
/-- The gradient along the planes. -/
def rgs : EReal := cHalf * (e 2 1 1 - e 0 1 1)
/-- The Hessian. -/
def rxx : EReal := e 1 1 2 - cTwo * e 1 1 1 + e 1 1 0
/-- The Hessian's entry of the rows. -/
def ryy : EReal := e 1 2 1 - cTwo * e 1 1 1 + e 1 0 1
/-- The Hessian's entry of the planes. -/
def rss : EReal := e 2 1 1 - cTwo * e 1 1 1 + e 0 1 1
/-- The Hessian's entry of columns and rows. -/
def rxy : EReal := cQuarter * (e 1 2 2 - e 1 2 0 - e 1 0 2 + e 1 0 0)
/-- The Hessian's entry of rows and planes. -/
def rys : EReal := cQuarter * (e 2 2 1 - e 2 0 1 - e 0 2 1 + e 0 0 1)
/-- The Hessian's entry of columns and planes. -/
def rxs : EReal := cQuarter * (e 2 1 2 - e 2 1 0 - e 0 1 2 + e 0 1 0)
/-- The system's rows. -/
def row0 : Row := ⟨rxx e, rxy e, rxs e, rgx e⟩
/-- The system's second row. -/
def row1 : Row := ⟨rxy e, ryy e, rys e, rgy e⟩
/-- The system's third row. -/
def row2 : Row := ⟨rxs e, rys e, rss e, rgs e⟩
/-- The largest of the 26 neighbours. -/
def rpeak : EReal :=
  max (max (max (max (max (max (max (max (max (max (max (max (max (max (max (max (max (max (max (max (max (max (max (max
    (max (max (Ideal.ofBits .f32 0xFF800000#32)
    (n 0 0 0)) (n 0 0 1)) (n 0 0 2)) (n 0 1 0)) (n 0 1 1)) (n 0 1 2)) (n 0 2 0)) (n 0 2 1)) (n 0 2 2))
    (n 1 0 0)) (n 1 0 1)) (n 1 0 2)) (n 1 1 0)) (n 1 1 2)) (n 1 2 0)) (n 1 2 1)) (n 1 2 2))
    (n 2 0 0)) (n 2 0 1)) (n 2 0 2)) (n 2 1 0)) (n 2 1 1)) (n 2 1 2)) (n 2 2 0)) (n 2 2 1)) (n 2 2 2)
/-- Whether the sample is above all its neighbours. -/
def rmask : BitVec 1 := BitVec.ofBool (decide (rpeak n < e 1 1 1))
/-- The displacement before the clipping: minus the solution at a maximum, zero elsewhere. -/
def rn0 : EReal := -Scalar.select (rmask e n) (elim (row0 e) (row1 e) (row2 e)).1 0
/-- The displacement along the rows before the clipping. -/
def rn1 : EReal := -Scalar.select (rmask e n) (elim (row0 e) (row1 e) (row2 e)).2.1 0
/-- The displacement along the planes before the clipping. -/
def rn2 : EReal := -Scalar.select (rmask e n) (elim (row0 e) (row1 e) (row2 e)).2.2 0
/-- Whether a component is above the limit. -/
def rfar : BitVec 1 :=
  BitVec.ofBool (decide (cLimit < max (max (mag (rn0 e n)) (mag (rn1 e n))) (mag (rn2 e n))))
/-- The displacement. -/
def rd0 : EReal := Scalar.select (rfar e n) 0 (rn0 e n)
/-- The displacement along the rows. -/
def rd1 : EReal := Scalar.select (rfar e n) 0 (rn1 e n)
/-- The displacement along the planes. -/
def rd2 : EReal := Scalar.select (rfar e n) 0 (rn2 e n)
/-- The refined value. -/
def ry : EReal :=
  e 1 1 1 + cHalf * (rgx e * rd0 e n + rgy e * rd1 e n + rgs e * rd2 e n)
    + cTen * FloatOps.uitofp (F := Ideal) .f32 (rmask e n)

end Reference

/-! ## The two agree -/

/-- The largest of the 26 neighbours does not depend on the order they are taken in. -/
theorem peak_eq (n : Nbrs) : kpeak n = rpeak n := by
  unfold kpeak rpeak k9 k8 krow
  rw [cNegInf_eq, max_bot_left]
  ac_rfl

/-- So the two masks are one. -/
theorem mask_eq (e n : Nbrs) : kmask e n = rmask e n := by unfold kmask rmask; rw [peak_eq]

/-- A one-bit mask read as a number: by way of a wider word or directly. -/
theorem mask_number (M : BitVec 1) :
    FloatOps.sitofp (F := Ideal) .f32 (BitVec.setWidth 32 M) = FloatOps.uitofp (F := Ideal) .f32 M := by
  rcases BitVec.eq_zero_or_eq_one M with rfl | rfl <;> rfl

/-- Samples that are real numbers. -/
def Reals (e : Nbrs) : Prop := ∃ u : ℕ → ℕ → ℕ → ℝ, ∀ p q s, e p q s = u p q s

/-- What the two refinements have in common where the samples are real numbers: the displacement, three real
    numbers. -/
theorem displacement (e n : Nbrs) (h : Reals e) :
    ∃ x y z : ℝ, (kd0 e n = x ∧ kd1 e n = y ∧ kd2 e n = z) ∧ rd0 e n = x ∧ rd1 e n = y ∧ rd2 e n = z := by
  obtain ⟨u, hu⟩ := h
  obtain ⟨a, ha⟩ : ∃ a : ℝ, a = u 1 1 2 + u 1 1 0 - 2 * u 1 1 1 := ⟨_, rfl⟩
  obtain ⟨d, hd⟩ : ∃ a : ℝ, a = u 1 2 1 + u 1 0 1 - 2 * u 1 1 1 := ⟨_, rfl⟩
  obtain ⟨g, hg⟩ : ∃ a : ℝ, a = u 2 1 1 + u 0 1 1 - 2 * u 1 1 1 := ⟨_, rfl⟩
  obtain ⟨b, hb⟩ : ∃ a : ℝ, a = 1 / 4 * (u 1 2 2 - u 1 0 2 - (u 1 2 0 - u 1 0 0)) := ⟨_, rfl⟩
  obtain ⟨f, hf⟩ : ∃ a : ℝ, a = 1 / 4 * (u 2 2 1 - u 2 0 1 - (u 0 2 1 - u 0 0 1)) := ⟨_, rfl⟩
  obtain ⟨c, hc⟩ : ∃ a : ℝ, a = 1 / 4 * (u 2 1 2 - u 2 1 0 - (u 0 1 2 - u 0 1 0)) := ⟨_, rfl⟩
  obtain ⟨x, hx⟩ : ∃ a : ℝ, a = u 1 1 2 - u 1 1 0 := ⟨_, rfl⟩
  obtain ⟨y, hy⟩ : ∃ a : ℝ, a = u 1 2 1 - u 1 0 1 := ⟨_, rfl⟩
  obtain ⟨z, hz⟩ : ∃ a : ℝ, a = u 2 1 1 - u 0 1 1 := ⟨_, rfl⟩
  have ka : kxx e = a := by simp only [kxx, hu, cTwo_eq, ← EReal.coe_mul, ← EReal.coe_add, ← EReal.coe_sub, ha]
  have kd : kyy e = d := by simp only [kyy, hu, cTwo_eq, ← EReal.coe_mul, ← EReal.coe_add, ← EReal.coe_sub, hd]
  have kg : kss e = g := by simp only [kss, hu, cTwo_eq, ← EReal.coe_mul, ← EReal.coe_add, ← EReal.coe_sub, hg]
  have kb : kxy e = b := by simp only [kxy, hu, cQuarter_eq, ← EReal.coe_mul, ← EReal.coe_sub, hb]
  have kf : kys e = f := by simp only [kys, hu, cQuarter_eq, ← EReal.coe_mul, ← EReal.coe_sub, hf]
  have kc : kxs e = c := by simp only [kxs, hu, cQuarter_eq, ← EReal.coe_mul, ← EReal.coe_sub, hc]
  have kx : kcx e = x := by simp only [kcx, hu, ← EReal.coe_sub, hx]
  have ky : kcy e = y := by simp only [kcy, hu, ← EReal.coe_sub, hy]
  have kz : kcz e = z := by simp only [kcz, hu, ← EReal.coe_sub, hz]
  have ra : rxx e = a := by
    simp only [rxx, hu, cTwo_eq, ← EReal.coe_mul, ← EReal.coe_add, ← EReal.coe_sub, ha]; congr 1; ring
  have rd : ryy e = d := by
    simp only [ryy, hu, cTwo_eq, ← EReal.coe_mul, ← EReal.coe_add, ← EReal.coe_sub, hd]; congr 1; ring
  have rg : rss e = g := by
    simp only [rss, hu, cTwo_eq, ← EReal.coe_mul, ← EReal.coe_add, ← EReal.coe_sub, hg]; congr 1; ring
  have rb : rxy e = b := by
    simp only [rxy, hu, cQuarter_eq, ← EReal.coe_mul, ← EReal.coe_add, ← EReal.coe_sub, hb]; congr 1; ring
  have rf : rys e = f := by
    simp only [rys, hu, cQuarter_eq, ← EReal.coe_mul, ← EReal.coe_add, ← EReal.coe_sub, hf]; congr 1; ring
  have rc : rxs e = c := by
    simp only [rxs, hu, cQuarter_eq, ← EReal.coe_mul, ← EReal.coe_add, ← EReal.coe_sub, hc]; congr 1; ring
  have rx : rgx e = ((1 / 2 * x : ℝ) : EReal) := by simp only [rgx, hu, cHalf_eq, ← EReal.coe_mul, ← EReal.coe_sub, hx]
  have ry : rgy e = ((1 / 2 * y : ℝ) : EReal) := by simp only [rgy, hu, cHalf_eq, ← EReal.coe_mul, ← EReal.coe_sub, hy]
  have rz : rgs e = ((1 / 2 * z : ℝ) : EReal) := by simp only [rgs, hu, cHalf_eq, ← EReal.coe_mul, ← EReal.coe_sub, hz]
  have hr0 : row0 e = Row.ofReal a b c (1 / 2 * x) := by simp only [row0, ra, rb, rc, rx, Row.ofReal]
  have hr1 : row1 e = Row.ofReal b d f (1 / 2 * y) := by simp only [row1, rb, rd, rf, ry, Row.ofReal]
  have hr2 : row2 e = Row.ofReal c f g (1 / 2 * z) := by simp only [row2, rc, rf, rg, rz, Row.ofReal]
  have hinv : kinv e = Ideal.div 1 (((-2 * (a * (d * g - f * f) + b * (f * c - b * g) + c * (b * f - d * c)) : ℝ)) : EReal) := by
    simp only [kinv, k11, k12, k13, ka, kb, kc, kd, kf, kg, cMinusTwo_eq, ← EReal.coe_mul, ← EReal.coe_add,
      ← EReal.coe_sub]
  have hD : det a b c b d f c f g = a * (d * g - f * f) + b * (f * c - b * g) + c * (b * f - d * c) := by
    unfold det; ring
  have hO := elim_outcome a b c (1 / 2 * x) b d f (1 / 2 * y) c f g (1 / 2 * z)
  rw [hD, ← hr0, ← hr1, ← hr2] at hO
  refine clip_eq _ ((d * g - f * f) * x + (f * c - b * g) * y + (b * f - d * c) * z)
    ((f * c - b * g) * x + (a * g - c * c) * y + (b * c - a * f) * z)
    ((b * f - d * c) * x + (b * c - a * f) * y + (a * d - b * b) * z) _ _ _ (rmask e n) _ hO ?_
    (kw0 e) (kw1 e) (kw2 e) (rn0 e n) (rn1 e n) (rn2 e n) (kkeep e n) (rfar e n) ?_ ?_ ?_ rfl rfl rfl ?_ rfl
  · rintro p q r ⟨h0, h1, h2⟩
    refine ⟨?_, ?_, ?_⟩
    · linear_combination -2 * (d * g - f * f) * h0 - 2 * (f * c - b * g) * h1 - 2 * (b * f - d * c) * h2
    · linear_combination -2 * (f * c - b * g) * h0 - 2 * (a * g - c * c) * h1 - 2 * (b * c - a * f) * h2
    · linear_combination -2 * (b * f - d * c) * h0 - 2 * (b * c - a * f) * h1 - 2 * (a * d - b * b) * h2
  · rw [← hinv]
    simp only [kw0, k11, k12, k13, ka, kb, kc, kd, kf, kg, kx, ky, kz, ← EReal.coe_mul, ← EReal.coe_add, ← EReal.coe_sub]
  · rw [← hinv]
    simp only [kw1, k12, k22, k23, ka, kb, kc, kd, kf, kg, kx, ky, kz, ← EReal.coe_mul, ← EReal.coe_add, ← EReal.coe_sub]
  · rw [← hinv]
    simp only [kw2, k13, k23, k33, ka, kb, kc, kd, kf, kg, kx, ky, kz, ← EReal.coe_mul, ← EReal.coe_add, ← EReal.coe_sub]
  · rw [← mask_eq]; rfl

/-- The displacements agree. -/
theorem d0_eq (e n : Nbrs) (h : Reals e) : kd0 e n = rd0 e n := by
  obtain ⟨x, y, z, ⟨h0, -, -⟩, h0', -, -⟩ := displacement e n h; rw [h0, h0']
/-- The displacements along the rows agree. -/
theorem d1_eq (e n : Nbrs) (h : Reals e) : kd1 e n = rd1 e n := by
  obtain ⟨x, y, z, ⟨-, h0, -⟩, -, h0', -⟩ := displacement e n h; rw [h0, h0']
/-- The displacements along the planes agree. -/
theorem d2_eq (e n : Nbrs) (h : Reals e) : kd2 e n = rd2 e n := by
  obtain ⟨x, y, z, ⟨-, -, h0⟩, -, -, h0'⟩ := displacement e n h; rw [h0, h0']

/-- The refined values agree: a quarter of twice the gradient is half the gradient. -/
theorem y_eq (e n : Nbrs) (h : Reals e) : ky e n = ry e n := by
  obtain ⟨x, y, z, ⟨h0, h1, h2⟩, h0', h1', h2'⟩ := displacement e n h
  obtain ⟨u, hu⟩ := h
  unfold ky ry
  rw [mask_eq, mask_number]
  congr 2
  simp only [h0, h1, h2, h0', h1', h2', kcx, kcy, kcz, rgx, rgy, rgs, hu, cQuarter_eq, cHalf_eq, ← EReal.coe_mul,
    ← EReal.coe_add, ← EReal.coe_sub]
  congr 1
  ring

end Cert.Proof

end
-- ==== Proof.Volume.lean ====
/-
  A volume read past its faces: with the face's sample repeated (for the differences) and with −∞ (for the comparison
  with the neighbours). Positions are counted from one, so that 0 and 9, 0 and 257 are the positions past the faces.
-/
module

public import proofs.«01_k».proof.Proof.Refine

@[expose] public section

noncomputable section

namespace Cert.Proof

open Idealize.ShloMosaic

/-- The two volumes of 8 planes, 256 rows and 256 columns. -/
abbrev Vol := (⟨5, ![2, 1, 8, 256, 256]⟩ : Shape).Idx → EReal

/-- Volume `b` at plane `k`, row `r`, column `w` counted from one, the nearest sample inside past the faces. -/
def edge (A : Vol) (b : Fin 2) (k r w : ℕ) : EReal :=
  A (ix5 b 0 ⟨min (k - 1) 7, by omega⟩ ⟨min (r - 1) 255, by omega⟩ ⟨min (w - 1) 255, by omega⟩)

/-- The position is inside the volume. -/
abbrev Inside (k r w : ℕ) : Prop := (1 ≤ k ∧ k - 1 < 8) ∧ (1 ≤ r ∧ r - 1 < 256) ∧ (1 ≤ w ∧ w - 1 < 256)

/-- The same reading with −∞ past the faces. -/
def outer (A : Vol) (b : Fin 2) (k r w : ℕ) : EReal := if Inside k r w then edge A b k r w else ⊥

/-- The reading at a sample. -/
theorem edge_of (A : Vol) (b : Fin 2) (k r w : ℕ) (z : Fin 8) (y x : Fin 256)
    (hz : min (k - 1) 7 = z.val) (hy : min (r - 1) 255 = y.val) (hx : min (w - 1) 255 = x.val) :
    edge A b k r w = A (ix5 b 0 z y x) := by
  unfold edge
  congr 2 <;> exact Fin.ext (by assumption)

/-- Two positions with the same nearest sample. -/
theorem edge_congr (A : Vol) (b : Fin 2) (k r w k' r' w' : ℕ)
    (hz : min (k - 1) 7 = min (k' - 1) 7) (hy : min (r - 1) 255 = min (r' - 1) 255)
    (hx : min (w - 1) 255 = min (w' - 1) 255) : edge A b k r w = edge A b k' r' w' := by
  unfold edge
  congr 2 <;> exact Fin.ext (by assumption)

/-- Inside the volume it is the same reading. -/
theorem outer_in (A : Vol) (b : Fin 2) (k r w : ℕ) (h : Inside k r w) : outer A b k r w = edge A b k r w := if_pos h
/-- Past the faces it is −∞. -/
theorem outer_out (A : Vol) (b : Fin 2) (k r w : ℕ) (h : ¬Inside k r w) : outer A b k r w = ⊥ := if_neg h

/-- The 27 neighbours of the sample at plane `z`, row `y`, column `x` counted from zero, faces repeated. -/
def nbrs (A : Vol) (b : Fin 2) (z y x : ℕ) : Nbrs := fun p q s => edge A b (z + p) (y + q) (x + s)

/-- The same with −∞ past the faces. -/
def nbrsInf (A : Vol) (b : Fin 2) (z y x : ℕ) : Nbrs := fun p q s => outer A b (z + p) (y + q) (x + s)

/-- A number from zero as a value. -/
abbrev place (n : ℕ) : EReal := FloatOps.sitofp (F := Ideal) .f32 (BitVec.ofNat 32 n)

/-- Neighbours in a volume of real numbers are real numbers. -/
theorem nbrs_reals (A : Vol) (hA : ∀ j, ∃ u : ℝ, A j = u) (b : Fin 2) (z y x : ℕ) : Reals (nbrs A b z y x) := by
  choose u hu using hA
  exact ⟨fun p q s => u _, fun p q s => hu _⟩

end Cert.Proof

end
-- ==== Proof.Block.lean ====
/-
  One run of the kernel's body: its vectors read at one sample of the block, when the block and the two rows beside it
  hold the samples of one volume.
-/
module

public import proofs.«01_k».proof.Proof.Volume
public import proofs.«01_k».proof.Proof.Gen.KernelIdeal.Value

@[expose] public section

set_option maxRecDepth 16384

noncomputable section

namespace Cert.Proof.Block

open Idealize.ShloMosaic Cert.Proof Cert.KernelIdeal Cert.KernelIdeal.Gen

/-- The three buffers of grid point `i` hold, of volume `b` of `A`: the 64 rows from row `64 h`, and, where there are
    such rows, the row before them and the row after them. Rows are counted from one on the right. -/
structure Reads (A : Vol) (b : Fin 2) (h : ℕ) (i : grid0.Coords) (X0 : Vec Ideal S1x1x8x8x256 .f32)
    (X1 : Vec Ideal S1x1x8x64x256 .f32) (X2 : Vec Ideal S1x1x8x8x256 .f32) : Prop where
  bound : h < 4
  point : (i 1).val = h
  own : ∀ (z : Fin 8) (r : Fin 64) (w : Fin 256), X1 (ix5 0 0 z r w) = edge A b (z + 1) (64 * h + r + 1) (w + 1)
  before : 0 < h → ∀ (z : Fin 8) (w : Fin 256), X0 (ix5 0 0 z 7 w) = edge A b (z + 1) (64 * h) (w + 1)
  after : h < 3 → ∀ (z : Fin 8) (w : Fin 256), X2 (ix5 0 0 z 0 w) = edge A b (z + 1) (64 * h + 65) (w + 1)

/-- Choosing by whether the block is not the last. -/
theorem select_lt (h : ℕ) (hh : h < 4) (u v : EReal) :
    Scalar.select (Scalar.cmpi .slt (BitVec.ofNat 32 h) 3#32) u v = if h < 3 then u else v := by
  rcases (by omega : h = 0 ∨ h = 1 ∨ h = 2 ∨ h = 3) with rfl | rfl | rfl | rfl <;> rfl

/-- Choosing by whether the block is not the first. -/
theorem select_gt (h : ℕ) (hh : h < 4) (u v : EReal) :
    Scalar.select (Scalar.cmpi .sgt (BitVec.ofNat 32 h) 0#32) u v = if 0 < h then u else v := by
  rcases (by omega : h = 0 ∨ h = 1 ∨ h = 2 ∨ h = 3) with rfl | rfl | rfl | rfl <;> rfl

/-- The nine samples of a plane that is past the volume's faces. -/
theorem k9_out (n : Nbrs) (p : ℕ) (hn : ∀ q s, n p q s = ⊥) : k9 n p = ⊥ := by
  simp only [k9, k8, krow, hn, max_self]

section Point
variable {A : Vol} {b : Fin 2} {h : ℕ} {i : grid0.Coords} {X0 : Vec Ideal S1x1x8x8x256 .f32}
  {X1 : Vec Ideal S1x1x8x64x256 .f32} {X2 : Vec Ideal S1x1x8x8x256 .f32} (H : Reads A b h i X0 X1 X2)
  (z : Fin 8) (r : Fin 64) (w : Fin 256)
include H

/-- The block. -/
theorem own_at : k0_pay3 (View.ld X1 r0_0) (ix3 z r w) = edge A b (z + 1) (64 * h + r + 1) (w + 1) := by
  pointwise [k0_pay3]
  exact H.own z r w

/-- The block one row on. -/
theorem pay9_at : k0_pay9 i (View.ld X1 r0_0) (View.ld X2 r0_2) (ix3 z r w) = edge A b (z + 1) (64 * h + r + 2) (w + 1) := by
  pointwise [k0_pay9, k0_pay3, k0_pay5]
  have hb := H.bound
  have hz := z.isLt
  have hr := r.isLt
  have hw := w.isLt
  rw [H.point]
  simp only [select_lt h hb]
  split_ifs <;> (first | rw [own_at H] | rw [H.own] | rw [H.before (by assumption)] | rw [H.after (by assumption)]) <;>
    apply edge_congr <;> (try simp only []) <;> omega

/-- One row back. -/
theorem pay10_at : k0_pay10 i (View.ld X1 r0_0) (View.ld X0 r0_1) (ix3 z r w) = edge A b (z + 1) (64 * h + r) (w + 1) := by
  pointwise [k0_pay10, k0_pay3, k0_pay4]
  have hb := H.bound
  have hz := z.isLt
  have hr := r.isLt
  have hw := w.isLt
  rw [H.point]
  simp only [select_gt h hb]
  split_ifs <;> (first | rw [own_at H] | rw [H.own] | rw [H.before (by assumption)] | rw [H.after (by assumption)]) <;>
    apply edge_congr <;> (try simp only []) <;> omega

/-- One column on. -/
theorem pay11_at : k0_pay11 (View.ld X1 r0_0) (ix3 z r w) = edge A b (z + 1) (64 * h + r + 1) (w + 2) := by
  pointwise [k0_pay11]
  have hb := H.bound
  have hz := z.isLt
  have hr := r.isLt
  have hw := w.isLt
  split_ifs <;> (first | rw [own_at H] | rw [H.own] | rw [H.before (by assumption)] | rw [H.after (by assumption)]) <;>
    apply edge_congr <;> (try simp only []) <;> omega

/-- One column back. -/
theorem pay12_at : k0_pay12 (View.ld X1 r0_0) (ix3 z r w) = edge A b (z + 1) (64 * h + r + 1) (w) := by
  pointwise [k0_pay12]
  have hb := H.bound
  have hz := z.isLt
  have hr := r.isLt
  have hw := w.isLt
  split_ifs <;> (first | rw [own_at H] | rw [H.own] | rw [H.before (by assumption)] | rw [H.after (by assumption)]) <;>
    apply edge_congr <;> (try simp only []) <;> omega

/-- One plane on. -/
theorem pay13_at : k0_pay13 (View.ld X1 r0_0) (ix3 z r w) = edge A b (z + 2) (64 * h + r + 1) (w + 1) := by
  pointwise [k0_pay13]
  have hb := H.bound
  have hz := z.isLt
  have hr := r.isLt
  have hw := w.isLt
  split_ifs <;> (first | rw [own_at H] | rw [H.own] | rw [H.before (by assumption)] | rw [H.after (by assumption)]) <;>
    apply edge_congr <;> (try simp only []) <;> omega

/-- One plane back. -/
theorem pay14_at : k0_pay14 (View.ld X1 r0_0) (ix3 z r w) = edge A b (z) (64 * h + r + 1) (w + 1) := by
  pointwise [k0_pay14]
  have hb := H.bound
  have hz := z.isLt
  have hr := r.isLt
  have hw := w.isLt
  split_ifs <;> (first | rw [own_at H] | rw [H.own] | rw [H.before (by assumption)] | rw [H.after (by assumption)]) <;>
    apply edge_congr <;> (try simp only []) <;> omega

/-- The sample. -/
theorem pay48_at : k0_pay48 i X0 X1 X2 (ix3 z r w) = nbrs A b z (64 * h + r) w 1 1 1 := own_at H z r w

/-- The difference along the rows. -/
theorem pay51_at : k0_pay51 i X0 X1 X2 (ix3 z r w) = kcy (nbrs A b z (64 * h + r) w) := by
  pointwise [k0_pay51, k0_pay15, pay9_at H, pay10_at H]
  rfl
/-- The difference along the columns. -/
theorem pay52_at : k0_pay52 i X0 X1 X2 (ix3 z r w) = kcx (nbrs A b z (64 * h + r) w) := by
  pointwise [k0_pay52, k0_pay16, pay11_at H, pay12_at H]
  rfl
/-- The difference along the planes. -/
theorem pay53_at : k0_pay53 i X0 X1 X2 (ix3 z r w) = kcz (nbrs A b z (64 * h + r) w) := by
  pointwise [k0_pay53, k0_pay17, pay13_at H, pay14_at H]
  rfl

/-- The second difference along the columns. -/
theorem pay55_at : k0_pay55 i X0 X1 X2 (ix3 z r w) = kxx (nbrs A b z (64 * h + r) w) := by
  pointwise [k0_pay55, k0_pay20, k0_pay19, k0_pay54, k0_pay18, pay48_at H, pay11_at H, pay12_at H]
  rfl
/-- The second difference along the rows. -/
theorem pay56_at : k0_pay56 i X0 X1 X2 (ix3 z r w) = kyy (nbrs A b z (64 * h + r) w) := by
  pointwise [k0_pay56, k0_pay21, k0_pay19, k0_pay54, k0_pay18, pay48_at H, pay9_at H, pay10_at H]
  rfl
/-- The second difference along the planes. -/
theorem pay57_at : k0_pay57 i X0 X1 X2 (ix3 z r w) = kss (nbrs A b z (64 * h + r) w) := by
  pointwise [k0_pay57, k0_pay22, k0_pay19, k0_pay54, k0_pay18, pay48_at H, pay13_at H, pay14_at H]
  rfl

/-- The mixed difference of columns and rows: a difference one step on less the same one step back. -/
theorem pay58_at : k0_pay58 i X0 X1 X2 (ix3 z r w) = kxy (nbrs A b z (64 * h + r) w) := by
  pointwise [k0_pay58, k0_pay23, pay51_at H]
  have hz := z.isLt
  have hr := r.isLt
  have hw := w.isLt
  simp only [kcy, kxy, nbrs]
  refine congrArg₂ (· * ·) rfl (congrArg₂ (· - ·) ?_ ?_) <;> split_ifs <;> refine congrArg₂ (· - ·) ?_ ?_ <;>
    apply edge_congr <;> (try simp only []) <;> omega
/-- The mixed difference along rows and planes. -/
theorem pay59_at : k0_pay59 i X0 X1 X2 (ix3 z r w) = kys (nbrs A b z (64 * h + r) w) := by
  pointwise [k0_pay59, k0_pay24, pay51_at H]
  have hz := z.isLt
  have hr := r.isLt
  have hw := w.isLt
  simp only [kcy, kys, nbrs]
  refine congrArg₂ (· * ·) rfl (congrArg₂ (· - ·) ?_ ?_) <;> split_ifs <;> refine congrArg₂ (· - ·) ?_ ?_ <;>
    apply edge_congr <;> (try simp only []) <;> omega
/-- The mixed difference along columns and planes. -/
theorem pay60_at : k0_pay60 i X0 X1 X2 (ix3 z r w) = kxs (nbrs A b z (64 * h + r) w) := by
  pointwise [k0_pay60, k0_pay25, pay52_at H]
  have hz := z.isLt
  have hr := r.isLt
  have hw := w.isLt
  simp only [kcx, kxs, nbrs]
  refine congrArg₂ (· * ·) rfl (congrArg₂ (· - ·) ?_ ?_) <;> split_ifs <;> refine congrArg₂ (· - ·) ?_ ?_ <;>
    apply edge_congr <;> (try simp only []) <;> omega

/-! The comparison with the neighbours: −∞ past the volume's faces. -/

/-- The block. -/
theorem own_outer : k0_pay48 i X0 X1 X2 (ix3 z r w) = outer A b (z + 1) (64 * h + r + 1) (w + 1) := by
  have hb := H.bound
  have hz := z.isLt
  have hr := r.isLt
  have hw := w.isLt
  rw [outer_in _ _ _ _ _ (by omega)]
  exact own_at H z r w

/-- The row before the block. -/
theorem pay49_at : k0_pay49 i X0 X1 X2 (ix3 z 0 w) = outer A b (z + 1) (64 * h) (w + 1) := by
  pointwise [k0_pay49, k0_pay7, k0_pay4, k0_pay6]
  have hb := H.bound
  have hz := z.isLt
  have hw := w.isLt
  rw [H.point, select_gt h hb]
  split_ifs with hh
  · rw [outer_in _ _ _ _ _ (by omega), H.before hh]
  · rw [outer_out _ _ _ _ _ (by omega), cNegInf_eq]

/-- The row after it. -/
theorem pay50_at : k0_pay50 i X0 X1 X2 (ix3 z 0 w) = outer A b (z + 1) (64 * h + 65) (w + 1) := by
  pointwise [k0_pay50, k0_pay8, k0_pay5, k0_pay6]
  have hb := H.bound
  have hz := z.isLt
  have hw := w.isLt
  rw [H.point, select_lt h hb]
  split_ifs with hh
  · rw [outer_in _ _ _ _ _ (by omega), H.after hh]
  · rw [outer_out _ _ _ _ _ (by omega), cNegInf_eq]

/-- The row before the block by its one row index. -/
theorem before_at (k : Fin 1) : k0_pay49 i X0 X1 X2 (ix3 z k w) = outer A b (z + 1) (64 * h) (w + 1) := by
  obtain rfl : k = 0 := Subsingleton.elim _ _
  exact pay49_at H z w
/-- The row after the block by its one row index. -/
theorem after_at (k : Fin 1) : k0_pay50 i X0 X1 X2 (ix3 z k w) = outer A b (z + 1) (64 * h + 65) (w + 1) := by
  obtain rfl : k = 0 := Subsingleton.elim _ _
  exact pay50_at H z w

/-- The eight neighbours in the sample's plane. -/
theorem pay26_at : k0_pay26 (k0_pay48 i X0 X1 X2) (k0_pay49 i X0 X1 X2) (k0_pay50 i X0 X1 X2) (ix3 z r w)
    = k8 (nbrsInf A b z (64 * h + r) w) 1 := by
  pointwise [k0_pay26]
  have hz := z.isLt
  have hr := r.isLt
  have hw := w.isLt
  simp only [own_outer H, before_at H, after_at H, k8, krow, nbrsInf]
  refine congrArg₂ max (congrArg₂ max ?_ ?_) (congrArg₂ max ?_ ?_)
  · by_cases h1 : w.val < 255
    · rw [dif_pos h1]
      refine congrArg₂ max (congrArg₂ max ?_ ?_) ?_ <;> (try split_ifs) <;> congr 1 <;> omega
    · rw [dif_neg h1, outer_out _ _ _ _ _ (by omega), outer_out _ _ _ _ _ (by omega), outer_out _ _ _ _ _ (by omega),
        max_self, max_self, cNegInf_eq]
  · by_cases h1 : w.val < 1
    · rw [dif_pos h1, outer_out _ _ _ _ _ (by omega), outer_out _ _ _ _ _ (by omega), outer_out _ _ _ _ _ (by omega),
        max_self, max_self, cNegInf_eq]
    · rw [dif_neg h1]
      refine congrArg₂ max (congrArg₂ max ?_ ?_) ?_ <;> (try split_ifs) <;> congr 1 <;> omega
  · split_ifs <;> congr 1 <;> omega
  · split_ifs <;> congr 1 <;> omega

/-- The nine samples of the plane around the sample. -/
theorem pay27_at : k0_pay27 (k0_pay48 i X0 X1 X2) (k0_pay49 i X0 X1 X2) (k0_pay50 i X0 X1 X2) (ix3 z r w)
    = k9 (nbrsInf A b z (64 * h + r) w) 1 := by
  pointwise [k0_pay27, pay26_at H, own_outer H]
  rfl

/-- The nine samples in the next plane. -/
theorem pay28_at : k0_pay28 (k0_pay48 i X0 X1 X2) (k0_pay49 i X0 X1 X2) (k0_pay50 i X0 X1 X2) (ix3 z r w)
    = k9 (nbrsInf A b z (64 * h + r) w) 2 := by
  pointwise [k0_pay28, pay27_at H]
  have hz := z.isLt
  split_ifs with h1
  · simp only [k9, k8, krow, nbrsInf, Nat.add_comm, Nat.add_left_comm, Nat.reduceAdd]
  · exact cNegInf_eq.trans (k9_out (nbrsInf A b z (64 * h + r) w) 2 fun q s => outer_out _ _ _ _ _ (by omega)).symm

/-- Whether the sample is above its 26 neighbours. -/
theorem pay61_at : k0_pay61 i X0 X1 X2 (ix3 z r w) = kmask (nbrs A b z (64 * h + r) w) (nbrsInf A b z (64 * h + r) w) := by
  pointwise [k0_pay61, k0_pay29, pay26_at H, pay27_at H, pay28_at H, pay48_at H]
  have hz := z.isLt
  have hp : (if h1 : z.val < 1 then Ideal.ofBits .f32 0xFF800000#32
      else k9 (nbrsInf A b (z.val - 1) (64 * h + r) w) 1) = k9 (nbrsInf A b z (64 * h + r) w) 0 := by
    split_ifs with h1
    · exact cNegInf_eq.trans (k9_out (nbrsInf A b z (64 * h + r) w) 0 fun q s => outer_out _ _ _ _ _ (by omega)).symm
    · simp only [k9, k8, krow, nbrsInf, Nat.sub_add_cancel (Nat.not_lt.1 h1), Nat.add_zero]
  rw [hp]
  rfl

/-! The displacement and the refined value. -/

/-- The displacement along the columns before the clipping. -/
theorem pay62_at : k0_pay62 i X0 X1 X2 (ix3 z r w) = kw0 (nbrs A b z (64 * h + r) w) := by
  pointwise [k0_pay62, k0_pay35, k0_pay30, k0_pay31, k0_pay32, k0_pay33, k0_pay34, pay51_at H, pay52_at H,
    pay53_at H, pay55_at H, pay56_at H, pay57_at H, pay58_at H, pay59_at H, pay60_at H]
  rfl
/-- The displacement along the rows before the clipping. -/
theorem pay63_at : k0_pay63 i X0 X1 X2 (ix3 z r w) = kw1 (nbrs A b z (64 * h + r) w) := by
  pointwise [k0_pay63, k0_pay36, k0_pay30, k0_pay31, k0_pay32, k0_pay33, k0_pay34, pay51_at H, pay52_at H,
    pay53_at H, pay55_at H, pay56_at H, pay57_at H, pay58_at H, pay59_at H, pay60_at H]
  rfl
/-- The displacement along the planes before the clipping. -/
theorem pay64_at : k0_pay64 i X0 X1 X2 (ix3 z r w) = kw2 (nbrs A b z (64 * h + r) w) := by
  pointwise [k0_pay64, k0_pay37, k0_pay30, k0_pay31, k0_pay32, k0_pay33, k0_pay34, pay51_at H, pay52_at H,
    pay53_at H, pay55_at H, pay56_at H, pay57_at H, pay58_at H, pay59_at H, pay60_at H]
  rfl

/-- Whether the displacement is kept. -/
theorem keep_at : k0_pay40 (k0_pay61 i X0 X1 X2) (k0_pay65 i X0 X1 X2) (k0_pay66 i X0 X1 X2) (ix3 z r w)
    = kkeep (nbrs A b z (64 * h + r) w) (nbrsInf A b z (64 * h + r) w) := by
  pointwise [k0_pay40, k0_pay65, k0_pay38, k0_pay66, k0_pay39, pay61_at H]
  rw [show k0_pay35 _ _ _ _ _ _ _ _ _ (ix3 z r w) = _ from pay62_at H z r w,
    show k0_pay36 _ _ _ _ _ _ _ _ _ (ix3 z r w) = _ from pay63_at H z r w,
    show k0_pay37 _ _ _ _ _ _ _ _ _ (ix3 z r w) = _ from pay64_at H z r w]
  rfl
/-- The displacement along the columns. -/
theorem pay41_at : k0_pay41 (k0_pay61 i X0 X1 X2) (k0_pay62 i X0 X1 X2) (k0_pay65 i X0 X1 X2) (k0_pay66 i X0 X1 X2) (ix3 z r w)
    = kd0 (nbrs A b z (64 * h + r) w) (nbrsInf A b z (64 * h + r) w) := by
  pointwise [k0_pay41, keep_at H, pay62_at H]
  rfl
/-- The displacement along the rows. -/
theorem pay42_at : k0_pay42 (k0_pay61 i X0 X1 X2) (k0_pay63 i X0 X1 X2) (k0_pay65 i X0 X1 X2) (k0_pay66 i X0 X1 X2) (ix3 z r w)
    = kd1 (nbrs A b z (64 * h + r) w) (nbrsInf A b z (64 * h + r) w) := by
  pointwise [k0_pay42, keep_at H, pay63_at H]
  rfl
/-- The displacement along the planes. -/
theorem pay43_at : k0_pay43 (k0_pay61 i X0 X1 X2) (k0_pay64 i X0 X1 X2) (k0_pay65 i X0 X1 X2) (k0_pay66 i X0 X1 X2) (ix3 z r w)
    = kd2 (nbrs A b z (64 * h + r) w) (nbrsInf A b z (64 * h + r) w) := by
  pointwise [k0_pay43, keep_at H, pay64_at H]
  rfl

end Point

end Cert.Proof.Block

end
-- ==== Proof.BlockOut.lean ====
/-
  What one run of the kernel's body leaves in its two output buffers, read at an index.
-/
module

public import proofs.«01_k».proof.Proof.Block

@[expose] public section

set_option maxRecDepth 16384

noncomputable section

namespace Cert.Proof.Block

open Idealize.ShloMosaic Cert.Proof Cert.KernelIdeal Cert.KernelIdeal.Gen

/-- The kernel's row number is the volume's. -/
theorem row_number (h r : ℕ) (hh : h < 4) (hr : r < 64) :
    IntOp.addi (BitVec.ofNat 32 r) (Scalar.muli (BitVec.ofNat 32 h) 64#32) = BitVec.ofNat 32 (64 * h + r) := by
  apply BitVec.eq_of_toNat_eq
  simp only [IntOp.addi, Scalar.muli, IntOp.muli, BitVec.toNat_add, BitVec.toNat_mul, BitVec.toNat_ofNat]
  omega

section Point
variable {A : Vol} {b : Fin 2} {h : ℕ} {i : grid0.Coords} {X0 : Vec Ideal S1x1x8x8x256 .f32}
  {X1 : Vec Ideal S1x1x8x64x256 .f32} {X2 : Vec Ideal S1x1x8x8x256 .f32} (H : Reads A b h i X0 X1 X2)
  (z : Fin 8) (r : Fin 64) (w : Fin 256)

/-- A sample's place in the three components and in the refined values. -/
theorem emb_plane : r0_3.emb (ix6 0 0 0 z r w) = ix6 0 0 0 z r w := by
  funext a
  apply Fin.ext
  match a with
  | ⟨0, _⟩ | ⟨1, _⟩ | ⟨2, _⟩ | ⟨3, _⟩ | ⟨4, _⟩ | ⟨5, _⟩ => simp [r0_3]
/-- A sample's place among the rows' coordinates. -/
theorem emb_row : r0_4.emb (ix6 0 0 0 z r w) = ix6 0 0 1 z r w := by
  funext a
  apply Fin.ext
  match a with
  | ⟨0, _⟩ | ⟨1, _⟩ | ⟨2, _⟩ | ⟨3, _⟩ | ⟨4, _⟩ | ⟨5, _⟩ => simp [r0_4]
/-- A sample's place among the columns' coordinates. -/
theorem emb_column : r0_5.emb (ix6 0 0 0 z r w) = ix6 0 0 2 z r w := by
  funext a
  apply Fin.ext
  match a with
  | ⟨0, _⟩ | ⟨1, _⟩ | ⟨2, _⟩ | ⟨3, _⟩ | ⟨4, _⟩ | ⟨5, _⟩ => simp [r0_5]
/-- A sample's place among the refined values. -/
theorem emb_value : r0_0.emb (ix5 0 0 z r w) = ix5 0 0 z r w := by
  funext a
  apply Fin.ext
  match a with
  | ⟨0, _⟩ | ⟨1, _⟩ | ⟨2, _⟩ | ⟨3, _⟩ | ⟨4, _⟩ => simp [r0_0]

include H

/-- The column's coordinate. -/
theorem out_column : out0_3 i X0 X1 X2 (ix6 0 0 2 z r w)
    = place w + kd0 (nbrs A b z (64 * h + r) w) (nbrsInf A b z (64 * h + r) w) := by
  unfold out0_3
  rw [← emb_column z r w, View.canon_cons_emb]
  pointwise [k0_pay2, k0_pay45, pay41_at H]

/-- The row's coordinate. -/
theorem out_row : out0_3 i X0 X1 X2 (ix6 0 0 1 z r w)
    = place (64 * h + r) + kd1 (nbrs A b z (64 * h + r) w) (nbrsInf A b z (64 * h + r) w) := by
  unfold out0_3
  rw [View.canon_cons_of_not_mem _ _ (by
    rw [Rect.mem_set_unit]
    intro hm
    exact absurd (show 2 ≤ 1 from (hm 2).1) (by decide)), ← emb_row z r w, View.canon_cons_emb]
  pointwise [k0_pay1, k0_pay47, pay42_at H]
  rw [H.point, row_number h r H.bound r.isLt]

/-- The plane's coordinate. -/
theorem out_plane : out0_3 i X0 X1 X2 (ix6 0 0 0 z r w)
    = place z + kd2 (nbrs A b z (64 * h + r) w) (nbrsInf A b z (64 * h + r) w) := by
  unfold out0_3
  rw [View.canon_cons_of_not_mem _ _ (by
    rw [Rect.mem_set_unit]
    intro hm
    exact absurd (show 2 ≤ 0 from (hm 2).1) (by decide)), View.canon_cons_of_not_mem _ _ (by
    rw [Rect.mem_set_unit]
    intro hm
    exact absurd (show 1 ≤ 0 from (hm 2).1) (by decide)), ← emb_plane z r w, View.canon_cons_emb]
  pointwise [k0_pay46, pay43_at H]

/-- The refined value. -/
theorem out_value : out0_4 i X0 X1 X2 (ix5 0 0 z r w)
    = ky (nbrs A b z (64 * h + r) w) (nbrsInf A b z (64 * h + r) w) := by
  unfold out0_4
  rw [← emb_value z r w, View.canon_cons_emb]
  pointwise [k0_pay44, pay41_at H, pay42_at H, pay43_at H, pay48_at H, pay51_at H, pay52_at H, pay53_at H, pay61_at H]
  rfl

end Point

end Cert.Proof.Block

end
-- ==== Proof.Arrays.lean ====
/-
  From blocks to arrays: the three buffers of a grid point hold the samples of the argument the body's reading asks for,
  and the two result arrays hold at every index what the body leaves at the grid point that owns the index.
-/
module

public import proofs.«01_k».proof.Proof.BlockOut

@[expose] public section

set_option maxRecDepth 16384

noncomputable section

namespace Cert.Proof.Arrays

open Idealize.ShloMosaic Idealize.ShloMosaic.TcCoe Cert.Proof Cert.Proof.Block Cert.KernelIdeal Cert.KernelIdeal.Gen
  Cert.KernelIdeal.Value

variable (m : (ℓ : Loc nD τ sig) → Buf (Elt Ideal) ℓ) (c : Dev nD)

/-- The argument. -/
abbrev arg : Vol := m ((c : Thread nD τ).loc main_arg0)

/-- The grid point of volume `b` and rows from `64 h`. -/
def pt (b : Fin 2) (h : Fin 4) : Fin cfg0.N := ⟨4 * b.val + h.val, by rw [show cfg0.N = 8 from N_0]; omega⟩

/-- The point's second coordinate. -/
theorem pt_row : ∀ (b : Fin 2) (h : Fin 4), (grid0.coords (pt b h) 1).val = h.val := by decide +kernel

/-- The window of the rows before the block: its block index at the point. -/
theorem index0 : ∀ (b : Fin 2) (h : Fin 4), win0_0.index (pt b h) 0 = b.val ∧ win0_0.index (pt b h) 1 = 0
    ∧ win0_0.index (pt b h) 2 = 0 ∧ win0_0.index (pt b h) 3 = 8 * h.val - 1 ∧ win0_0.index (pt b h) 4 = 0 := by
  decide +kernel
/-- The window of the block itself: its block index at the point. -/
theorem index1 : ∀ (b : Fin 2) (h : Fin 4), win0_1.index (pt b h) 0 = b.val ∧ win0_1.index (pt b h) 1 = 0
    ∧ win0_1.index (pt b h) 2 = 0 ∧ win0_1.index (pt b h) 3 = h.val ∧ win0_1.index (pt b h) 4 = 0 := by
  decide +kernel
/-- The window of the rows after the block. -/
theorem index2 : ∀ (b : Fin 2) (h : Fin 4), win0_2.index (pt b h) 0 = b.val ∧ win0_2.index (pt b h) 1 = 0
    ∧ win0_2.index (pt b h) 2 = 0 ∧ win0_2.index (pt b h) 3 = min (8 * (h.val + 1)) 31 ∧ win0_2.index (pt b h) 4 = 0 := by
  decide +kernel
/-- The coordinates' window. -/
theorem index3 : ∀ (b : Fin 2) (h : Fin 4), win0_3.index (pt b h) 0 = b.val ∧ win0_3.index (pt b h) 1 = 0
    ∧ win0_3.index (pt b h) 2 = 0 ∧ win0_3.index (pt b h) 3 = 0 ∧ win0_3.index (pt b h) 4 = h.val
    ∧ win0_3.index (pt b h) 5 = 0 := by
  decide +kernel
/-- The refined values' window. -/
theorem index4 : ∀ (b : Fin 2) (h : Fin 4), win0_4.index (pt b h) 0 = b.val ∧ win0_4.index (pt b h) 1 = 0
    ∧ win0_4.index (pt b h) 2 = 0 ∧ win0_4.index (pt b h) 3 = h.val ∧ win0_4.index (pt b h) 4 = 0 := by
  decide +kernel

/-- The last row of the buffer before the block is the row that precedes it. -/
theorem before_read (b : Fin 2) (h : Fin 4) (z : Fin 8) (w : Fin 256) (y : Fin 256) (hy : (8 * h.val - 1) * 8 + 7 = y.val) :
    (iblk m c 0 (pt b h) : Vec Ideal S1x1x8x8x256 .f32) (ix5 0 0 z 7 w) = arg m c (ix5 b 0 z y w) := by
  have hi := index0 b h
  unfold iblk
  rw [View.read_apply]
  show V m c main_arg0 _ = m ((c : Thread nD τ).loc main_arg0) _
  unfold V
  congr 1
  funext a
  apply Fin.ext
  match a with
  | ⟨0, _⟩ => show win0_0.index (pt b h) 0 * 1 + 1 * 0 = b.val; omega
  | ⟨1, _⟩ => show win0_0.index (pt b h) 1 * 1 + 1 * 0 = 0; omega
  | ⟨2, _⟩ => show win0_0.index (pt b h) 2 * 8 + 1 * z.val = z.val; omega
  | ⟨3, _⟩ => show win0_0.index (pt b h) 3 * 8 + 1 * 7 = y.val; omega
  | ⟨4, _⟩ => show win0_0.index (pt b h) 4 * 256 + 1 * w.val = w.val; omega
/-- The buffer of the block holds the block's rows. -/
theorem own_read (b : Fin 2) (h : Fin 4) (z : Fin 8) (r : Fin 64) (w : Fin 256) (y : Fin 256) (hy : 64 * h.val + r.val = y.val) :
    (iblk m c 1 (pt b h) : Vec Ideal S1x1x8x64x256 .f32) (ix5 0 0 z r w) = arg m c (ix5 b 0 z y w) := by
  have hi := index1 b h
  unfold iblk
  rw [View.read_apply]
  show V m c main_arg0 _ = m ((c : Thread nD τ).loc main_arg0) _
  unfold V
  congr 1
  funext a
  apply Fin.ext
  match a with
  | ⟨0, _⟩ => show win0_1.index (pt b h) 0 * 1 + 1 * 0 = b.val; omega
  | ⟨1, _⟩ => show win0_1.index (pt b h) 1 * 1 + 1 * 0 = 0; omega
  | ⟨2, _⟩ => show win0_1.index (pt b h) 2 * 8 + 1 * z.val = z.val; omega
  | ⟨3, _⟩ => show win0_1.index (pt b h) 3 * 64 + 1 * r.val = y.val; omega
  | ⟨4, _⟩ => show win0_1.index (pt b h) 4 * 256 + 1 * w.val = w.val; omega
/-- The first row of the buffer after the block is the row that follows it. -/
theorem after_read (b : Fin 2) (h : Fin 4) (z : Fin 8) (w : Fin 256) (y : Fin 256)
    (hy : min (8 * (h.val + 1)) 31 * 8 = y.val) :
    (iblk m c 2 (pt b h) : Vec Ideal S1x1x8x8x256 .f32) (ix5 0 0 z 0 w) = arg m c (ix5 b 0 z y w) := by
  have hi := index2 b h
  unfold iblk
  rw [View.read_apply]
  show V m c main_arg0 _ = m ((c : Thread nD τ).loc main_arg0) _
  unfold V
  congr 1
  funext a
  apply Fin.ext
  match a with
  | ⟨0, _⟩ => show win0_2.index (pt b h) 0 * 1 + 1 * 0 = b.val; omega
  | ⟨1, _⟩ => show win0_2.index (pt b h) 1 * 1 + 1 * 0 = 0; omega
  | ⟨2, _⟩ => show win0_2.index (pt b h) 2 * 8 + 1 * z.val = z.val; omega
  | ⟨3, _⟩ => show win0_2.index (pt b h) 3 * 8 + 1 * 0 = y.val; omega
  | ⟨4, _⟩ => show win0_2.index (pt b h) 4 * 256 + 1 * w.val = w.val; omega

/-- So the body's reading applies at every grid point. -/
theorem reads (b : Fin 2) (h : Fin 4) :
    Reads (arg m c) b h (grid0.coords (pt b h)) (iblk m c 0 (pt b h)) (iblk m c 1 (pt b h)) (iblk m c 2 (pt b h)) where
  bound := h.isLt
  point := pt_row b h
  own z r w := by
    have hh := h.isLt
    have hz := z.isLt
    have hr := r.isLt
    have hw := w.isLt
    rw [own_read m c b h z r w ⟨64 * h.val + r.val, by omega⟩ rfl]
    symm
    apply edge_of <;> (try simp only []) <;> omega
  before h0 z w := by
    have hh := h.isLt
    have hz := z.isLt
    have hw := w.isLt
    rw [before_read m c b h z w ⟨(8 * h.val - 1) * 8 + 7, by omega⟩ rfl]
    symm
    apply edge_of <;> (try simp only []) <;> omega
  after h3 z w := by
    have hh := h.isLt
    have hz := z.isLt
    have hw := w.isLt
    rw [after_read m c b h z w ⟨min (8 * (h.val + 1)) 31 * 8, by omega⟩ rfl]
    symm
    apply edge_of <;> (try simp only []) <;> omega

/-- The coordinates' array at an index is what the owning point's body left there. -/
theorem array3 (b : Fin 2) (h : Fin 4) (k : Fin 3) (z : Fin 8) (r : Fin 64) (w : Fin 256) (y : Fin 256)
    (hy : 64 * h.val + r.val = y.val) :
    ((dats m 0 c).arrAt 3 cfg0.N : FVec Ideal S2x1x3x8x256x256 .f32) (ix6 b 0 k z y w)
      = out0_3 (grid0.coords (pt b h)) (iblk m c 0 (pt b h)) (iblk m c 1 (pt b h)) (iblk m c 2 (pt b h)) (ix6 0 0 k z r w) := by
  have hi := index3 b h
  have e : ((cfg0.win 3).blk (pt b h)).view.emb (ix6 0 0 k z r w : S1x1x3x8x64x256.Idx) = ix6 b 0 k z y w := by
    funext a
    apply Fin.ext
    match a with
    | ⟨0, _⟩ => show win0_3.index (pt b h) 0 * 1 + 1 * 0 = b.val; omega
    | ⟨1, _⟩ => show win0_3.index (pt b h) 1 * 1 + 1 * 0 = 0; omega
    | ⟨2, _⟩ => show win0_3.index (pt b h) 2 * 3 + 1 * k.val = k.val; omega
    | ⟨3, _⟩ => show win0_3.index (pt b h) 3 * 8 + 1 * z.val = z.val; omega
    | ⟨4, _⟩ => show win0_3.index (pt b h) 4 * 64 + 1 * r.val = y.val; omega
    | ⟨5, _⟩ => show win0_3.index (pt b h) 5 * 256 + 1 * w.val = w.val; omega
  rw [← e]
  refine ((dats m 0 c).arrAt_emb_eq_flushed 3 disjoint3 (pt b h) (flush0_3 _) _).trans ?_
  rw [flushed3]
  generalize out0_3 (grid0.coords (pt b h)) (iblk m c 0 (pt b h)) (iblk m c 1 (pt b h)) (iblk m c 2 (pt b h)) = X
  rfl

/-- The refined values' array likewise. -/
theorem array4 (b : Fin 2) (h : Fin 4) (z : Fin 8) (r : Fin 64) (w : Fin 256) (y : Fin 256)
    (hy : 64 * h.val + r.val = y.val) :
    ((dats m 0 c).arrAt 4 cfg0.N : FVec Ideal S2x1x8x256x256 .f32) (ix5 b 0 z y w)
      = out0_4 (grid0.coords (pt b h)) (iblk m c 0 (pt b h)) (iblk m c 1 (pt b h)) (iblk m c 2 (pt b h)) (ix5 0 0 z r w) := by
  have hi := index4 b h
  have e : ((cfg0.win 4).blk (pt b h)).view.emb (ix5 0 0 z r w : S1x1x8x64x256.Idx) = ix5 b 0 z y w := by
    funext a
    apply Fin.ext
    match a with
    | ⟨0, _⟩ => show win0_4.index (pt b h) 0 * 1 + 1 * 0 = b.val; omega
    | ⟨1, _⟩ => show win0_4.index (pt b h) 1 * 1 + 1 * 0 = 0; omega
    | ⟨2, _⟩ => show win0_4.index (pt b h) 2 * 8 + 1 * z.val = z.val; omega
    | ⟨3, _⟩ => show win0_4.index (pt b h) 3 * 64 + 1 * r.val = y.val; omega
    | ⟨4, _⟩ => show win0_4.index (pt b h) 4 * 256 + 1 * w.val = w.val; omega
  rw [← e]
  refine ((dats m 0 c).arrAt_emb_eq_flushed 4 disjoint4 (pt b h) (flush0_4 _) _).trans ?_
  rw [flushed4]
  generalize out0_4 (grid0.coords (pt b h)) (iblk m c 0 (pt b h)) (iblk m c 1 (pt b h)) (iblk m c 2 (pt b h)) = X
  rfl

/-! The two arrays by index. -/

variable (b : Fin 2) (z : Fin 8) (y x : Fin 256)

/-- The plane's coordinate of a sample. -/
theorem coords_plane : ((dats m 0 c).arrAt 3 cfg0.N : FVec Ideal S2x1x3x8x256x256 .f32) (ix6 b 0 0 z y x)
    = place z + kd2 (nbrs (arg m c) b z y x) (nbrsInf (arg m c) b z y x) := by
  have hy : 64 * (y.val / 64) + y.val % 64 = y.val := Nat.div_add_mod _ _
  rw [array3 m c b ⟨y.val / 64, by omega⟩ 0 z ⟨y.val % 64, by omega⟩ x y hy, out_plane (reads m c b _)]
  simp only [hy]
/-- The row's coordinate of a sample. -/
theorem coords_row : ((dats m 0 c).arrAt 3 cfg0.N : FVec Ideal S2x1x3x8x256x256 .f32) (ix6 b 0 1 z y x)
    = place y + kd1 (nbrs (arg m c) b z y x) (nbrsInf (arg m c) b z y x) := by
  have hy : 64 * (y.val / 64) + y.val % 64 = y.val := Nat.div_add_mod _ _
  rw [array3 m c b ⟨y.val / 64, by omega⟩ 1 z ⟨y.val % 64, by omega⟩ x y hy, out_row (reads m c b _)]
  simp only [hy]
/-- The column's coordinate of a sample. -/
theorem coords_column : ((dats m 0 c).arrAt 3 cfg0.N : FVec Ideal S2x1x3x8x256x256 .f32) (ix6 b 0 2 z y x)
    = place x + kd0 (nbrs (arg m c) b z y x) (nbrsInf (arg m c) b z y x) := by
  have hy : 64 * (y.val / 64) + y.val % 64 = y.val := Nat.div_add_mod _ _
  rw [array3 m c b ⟨y.val / 64, by omega⟩ 2 z ⟨y.val % 64, by omega⟩ x y hy, out_column (reads m c b _)]
  simp only [hy]

/-- The refined value of a sample. -/
theorem value : ((dats m 0 c).arrAt 4 cfg0.N : FVec Ideal S2x1x8x256x256 .f32) (ix5 b 0 z y x)
    = ky (nbrs (arg m c) b z y x) (nbrsInf (arg m c) b z y x) := by
  have hy : 64 * (y.val / 64) + y.val % 64 = y.val := Nat.div_add_mod _ _
  rw [array4 m c b ⟨y.val / 64, by omega⟩ z ⟨y.val % 64, by omega⟩ x y hy, out_value (reads m c b _)]
  simp only [hy]

end Cert.Proof.Arrays

end
-- ==== Proof.RefRead.lean ====
/-
  The reference at one sample: every named value of its run read at an index, and with it the displacement and the
  refined value as `Refine.lean` states them.
-/
module

public import proofs.«01_k».proof.Proof.Volume
public import proofs.«01_k».proof.Proof.Gen.ReferenceIdeal.Run
public import Idealize.ShloMosaic.Lib.Tactic.CleanTypes

@[expose] public section

set_option maxRecDepth 16384

noncomputable section

namespace Cert.Proof.Reference

open Idealize.ShloMosaic Cert.Proof Cert.ReferenceIdeal Cert.ReferenceIdeal.Gen Cert.ReferenceIdeal.Value

variable (V : Valuation τ sig (Elt Ideal))

/-- The argument. -/
abbrev arg : Vol := V (Proc.devRef .tc main_arg0)

section Padded
variable (b : Fin 2)

/-- The planes repeated past the faces. -/
theorem v2_at (k : Fin 10) (y x : Fin 256) :
    (res_main_v2 V : FVec Ideal _ .f32) (ix5 b 0 k y x) = edge (arg V) b k (y + 1) (x + 1) := by
  unfold res_main_v2
  clean_types
  pointwise
  have hy := y.isLt
  have hx := x.isLt
  have hk := k.isLt
  split_ifs <;> (symm; apply edge_of <;> (try simp only []) <;> omega)

/-- The rows too. -/
theorem v5_at (k : Fin 10) (r : Fin 258) (x : Fin 256) :
    (res_main_v5 V : FVec Ideal _ .f32) (ix5 b 0 k r x) = edge (arg V) b k r (x + 1) := by
  unfold res_main_v5
  clean_types
  pointwise
  have hr := r.isLt
  split_ifs <;> (rw [v2_at]; apply edge_congr <;> (try simp only []) <;> omega)

/-- And the columns. -/
theorem v8_at (k : Fin 10) (r w : Fin 258) :
    (res_main_v8 V : FVec Ideal _ .f32) (ix5 b 0 k r w) = edge (arg V) b k r w := by
  unfold res_main_v8
  clean_types
  pointwise
  have hw := w.isLt
  split_ifs <;> (rw [v5_at]; apply edge_congr <;> (try simp only []) <;> omega)

/-- The volume with −∞ past the faces. -/
theorem v69_at (k : Fin 10) (r w : Fin 258) :
    (res_main_v69 V : FVec Ideal _ .f32) (ix5 b 0 k r w) = outer (arg V) b k r w := by
  unfold res_main_v69
  clean_types
  pointwise
  unfold outer
  by_cases h : Inside k r w
  · rw [if_pos h, dif_pos h]
    symm
    apply edge_of <;> (try simp only []) <;> omega
  · rw [if_neg h, dif_neg h]
    exact cNegInf_eq

end Padded

section Sample
variable (b : Fin 2) (z : Fin 8) (y x : Fin 256)

/-- The sample itself. -/
theorem arg_at : arg V (ix5 b 0 z y x) = nbrs (arg V) b z y x 1 1 1 := by
  have hz := z.isLt
  have hy := y.isLt
  have hx := x.isLt
  symm
  apply edge_of <;> omega

/-- The gradient's components. -/
theorem v13_at : (res_main_v13 V : FVec Ideal _ .f32) (ix5 b 0 z y x) = rgx (nbrs (arg V) b z y x) := by
  unfold res_main_v13
  clean_types
  pointwise [v8_at]
  simp only [rgx, nbrs, Nat.add_comm, Nat.add_zero, Nat.zero_add]

/-- The gradient along the rows. -/
theorem v18_at : (res_main_v18 V : FVec Ideal _ .f32) (ix5 b 0 z y x) = rgy (nbrs (arg V) b z y x) := by
  unfold res_main_v18
  clean_types
  pointwise [v8_at]
  simp only [rgy, nbrs, Nat.add_comm, Nat.add_zero, Nat.zero_add]

/-- The gradient along the planes. -/
theorem v23_at : (res_main_v23 V : FVec Ideal _ .f32) (ix5 b 0 z y x) = rgs (nbrs (arg V) b z y x) := by
  unfold res_main_v23
  clean_types
  pointwise [v8_at]
  simp only [rgs, nbrs, Nat.add_comm, Nat.add_zero, Nat.zero_add]

/-- The Hessian's entries. -/
theorem v29_at : (res_main_v29 V : FVec Ideal _ .f32) (ix5 b 0 z y x) = rxx (nbrs (arg V) b z y x) := by
  unfold res_main_v29
  clean_types
  pointwise [v8_at]
  rw [show (V (Proc.devRef .tc main_arg0) : FVec Ideal _ .f32) (ix5 b 0 z y x) = _ from arg_at V b z y x]
  simp only [rxx, nbrs, Nat.add_comm, Nat.add_zero, Nat.zero_add]

/-- The Hessian's entry of the rows. -/
theorem v35_at : (res_main_v35 V : FVec Ideal _ .f32) (ix5 b 0 z y x) = ryy (nbrs (arg V) b z y x) := by
  unfold res_main_v35
  clean_types
  pointwise [v8_at]
  rw [show (V (Proc.devRef .tc main_arg0) : FVec Ideal _ .f32) (ix5 b 0 z y x) = _ from arg_at V b z y x]
  simp only [ryy, nbrs, Nat.add_comm, Nat.add_zero, Nat.zero_add]

/-- The Hessian's entry of the planes. -/
theorem v41_at : (res_main_v41 V : FVec Ideal _ .f32) (ix5 b 0 z y x) = rss (nbrs (arg V) b z y x) := by
  unfold res_main_v41
  clean_types
  pointwise [v8_at]
  rw [show (V (Proc.devRef .tc main_arg0) : FVec Ideal _ .f32) (ix5 b 0 z y x) = _ from arg_at V b z y x]
  simp only [rss, nbrs, Nat.add_comm, Nat.add_zero, Nat.zero_add]

/-- The Hessian's entry of columns and rows. -/
theorem v50_at : (res_main_v50 V : FVec Ideal _ .f32) (ix5 b 0 z y x) = rxy (nbrs (arg V) b z y x) := by
  unfold res_main_v50
  clean_types
  pointwise [v8_at]
  simp only [rxy, nbrs, Nat.add_comm, Nat.add_zero, Nat.zero_add]

/-- The Hessian's entry of rows and planes. -/
theorem v59_at : (res_main_v59 V : FVec Ideal _ .f32) (ix5 b 0 z y x) = rys (nbrs (arg V) b z y x) := by
  unfold res_main_v59
  clean_types
  pointwise [v8_at]
  simp only [rys, nbrs, Nat.add_comm, Nat.add_zero, Nat.zero_add]

/-- The Hessian's entry of columns and planes. -/
theorem v68_at : (res_main_v68 V : FVec Ideal _ .f32) (ix5 b 0 z y x) = rxs (nbrs (arg V) b z y x) := by
  unfold res_main_v68
  clean_types
  pointwise [v8_at]
  simp only [rxs, nbrs, Nat.add_comm, Nat.add_zero, Nat.zero_add]

/-- Whether the sample is above its 26 neighbours. -/
theorem v123_at : (res_main_v123 V : IVec _ 1) (ix5 b 0 z y x) = rmask (nbrs (arg V) b z y x) (nbrsInf (arg V) b z y x) := by
  unfold res_main_v123
  clean_types
  pointwise [v69_at]
  rw [show (V (Proc.devRef .tc main_arg0) : FVec Ideal _ .f32) (ix5 b 0 z y x) = _ from arg_at V b z y x]
  simp only [rmask, rpeak, id_eq, constant, nbrsInf, nbrs, Nat.add_comm, Nat.add_zero, Nat.zero_add]
  rfl

/-! The elimination's rows, in the order the reference makes them. -/

/-- Column 1's pivot row of the first two rows, and the other one. -/
abbrev rowA : Row := top (row0 (nbrs (arg V) b z y x)) (row1 (nbrs (arg V) b z y x))
/-- The other one of the first two rows. -/
abbrev rowB : Row := low (row0 (nbrs (arg V) b z y x)) (row1 (nbrs (arg V) b z y x))
/-- Column 1's pivot row of all three rows, and the third one. -/
abbrev rowP : Row := top (rowA V b z y x) (row2 (nbrs (arg V) b z y x))
/-- The row left of column 1's second comparison. -/
abbrev rowC : Row := low (rowA V b z y x) (row2 (nbrs (arg V) b z y x))
/-- The two rows left, column 2's pivot row first. -/
abbrev rowQ : Row := top2 (cut (rowP V b z y x) (rowB V b z y x)) (cut (rowP V b z y x) (rowC V b z y x))
/-- The row left of column 2's comparison. -/
abbrev rowD : Row := low2 (cut (rowP V b z y x) (rowB V b z y x)) (cut (rowP V b z y x) (rowC V b z y x))

/-- Whether column 1 exchanges the first two rows. -/
theorem v126_at : (res_main_v126 V : IVec _ 1) (ix5 b 0 z y x) = BitVec.ofBool (decide (mag (rxx (nbrs (arg V) b z y x)) < mag (rxy (nbrs (arg V) b z y x)))) := by
  unfold res_main_v126
  clean_types
  pointwise [v29_at, v50_at]
  rfl

/-- The first row after it. -/
theorem v127_at : (res_main_v127 V : FVec Ideal _ .f32) (ix5 b 0 z y x) = (rowA V b z y x).x := by
  unfold res_main_v127
  clean_types
  pointwise [v126_at, v50_at, v29_at]
  first
    | rfl
    | (simp only [select_ofBool]; rfl)

/-- The first row's second entry. -/
theorem v128_at : (res_main_v128 V : FVec Ideal _ .f32) (ix5 b 0 z y x) = (rowA V b z y x).y := by
  unfold res_main_v128
  clean_types
  pointwise [v126_at, v35_at, v50_at]
  first
    | rfl
    | (simp only [select_ofBool]; rfl)

/-- The first row's third entry. -/
theorem v129_at : (res_main_v129 V : FVec Ideal _ .f32) (ix5 b 0 z y x) = (rowA V b z y x).z := by
  unfold res_main_v129
  clean_types
  pointwise [v126_at, v59_at, v68_at]
  first
    | rfl
    | (simp only [select_ofBool]; rfl)

/-- The first row's right side. -/
theorem v130_at : (res_main_v130 V : FVec Ideal _ .f32) (ix5 b 0 z y x) = (rowA V b z y x).g := by
  unfold res_main_v130
  clean_types
  pointwise [v126_at, v18_at, v13_at]
  first
    | rfl
    | (simp only [select_ofBool]; rfl)

/-- The second row's first entry after it. -/
theorem v131_at : (res_main_v131 V : FVec Ideal _ .f32) (ix5 b 0 z y x) = (rowB V b z y x).x := by
  unfold res_main_v131
  clean_types
  pointwise [v126_at, v29_at, v50_at]
  first
    | rfl
    | (simp only [select_ofBool]; rfl)

/-- Whether column 1 exchanges the first row and the third. -/
theorem v137_at : (res_main_v137 V : IVec _ 1) (ix5 b 0 z y x) = BitVec.ofBool (decide (mag (rowA V b z y x).x < mag (rxs (nbrs (arg V) b z y x)))) := by
  unfold res_main_v137
  clean_types
  pointwise [v68_at, v127_at]
  rfl

/-- The pivot row. -/
theorem v138_at : (res_main_v138 V : FVec Ideal _ .f32) (ix5 b 0 z y x) = (rowP V b z y x).x := by
  unfold res_main_v138
  clean_types
  pointwise [v137_at, v68_at, v127_at]
  first
    | rfl
    | (simp only [select_ofBool]; rfl)

/-- The pivot row's second entry. -/
theorem v139_at : (res_main_v139 V : FVec Ideal _ .f32) (ix5 b 0 z y x) = (rowP V b z y x).y := by
  unfold res_main_v139
  clean_types
  pointwise [v137_at, v59_at, v128_at]
  first
    | rfl
    | (simp only [select_ofBool]; rfl)

/-- The pivot row's third entry. -/
theorem v140_at : (res_main_v140 V : FVec Ideal _ .f32) (ix5 b 0 z y x) = (rowP V b z y x).z := by
  unfold res_main_v140
  clean_types
  pointwise [v137_at, v41_at, v129_at]
  first
    | rfl
    | (simp only [select_ofBool]; rfl)

/-- The pivot row's right side. -/
theorem v141_at : (res_main_v141 V : FVec Ideal _ .f32) (ix5 b 0 z y x) = (rowP V b z y x).g := by
  unfold res_main_v141
  clean_types
  pointwise [v137_at, v23_at, v130_at]
  first
    | rfl
    | (simp only [select_ofBool]; rfl)

/-- The third row's first entry. -/
theorem v142_at : (res_main_v142 V : FVec Ideal _ .f32) (ix5 b 0 z y x) = (rowC V b z y x).x := by
  unfold res_main_v142
  clean_types
  pointwise [v137_at, v127_at, v68_at]
  first
    | rfl
    | (simp only [select_ofBool]; rfl)

/-- The second row's multiplier. -/
theorem v146_at : (res_main_v146 V : FVec Ideal _ .f32) (ix5 b 0 z y x) = Ideal.div (rowB V b z y x).x (rowP V b z y x).x := by
  unfold res_main_v146
  clean_types
  pointwise [v131_at, v138_at]

/-- The second row cleared. -/
theorem v150_at : (res_main_v150 V : FVec Ideal _ .f32) (ix5 b 0 z y x) = (cut (rowP V b z y x) (rowB V b z y x)).y := by
  unfold res_main_v150
  clean_types
  pointwise [v126_at, v146_at, v50_at, v35_at, v139_at]
  first
    | rfl
    | (simp only [select_ofBool]; rfl)

/-- The cleared second row's third entry. -/
theorem v152_at : (res_main_v152 V : FVec Ideal _ .f32) (ix5 b 0 z y x) = (cut (rowP V b z y x) (rowB V b z y x)).z := by
  unfold res_main_v152
  clean_types
  pointwise [v126_at, v146_at, v68_at, v59_at, v140_at]
  first
    | rfl
    | (simp only [select_ofBool]; rfl)

/-- The cleared second row's right side. -/
theorem v154_at : (res_main_v154 V : FVec Ideal _ .f32) (ix5 b 0 z y x) = (cut (rowP V b z y x) (rowB V b z y x)).g := by
  unfold res_main_v154
  clean_types
  pointwise [v126_at, v146_at, v13_at, v18_at, v141_at]
  first
    | rfl
    | (simp only [select_ofBool]; rfl)

/-- The third row's multiplier. -/
theorem v155_at : (res_main_v155 V : FVec Ideal _ .f32) (ix5 b 0 z y x) = Ideal.div (rowC V b z y x).x (rowP V b z y x).x := by
  unfold res_main_v155
  clean_types
  pointwise [v142_at, v138_at]

/-- The third row cleared. -/
theorem v159_at : (res_main_v159 V : FVec Ideal _ .f32) (ix5 b 0 z y x) = (cut (rowP V b z y x) (rowC V b z y x)).y := by
  unfold res_main_v159
  clean_types
  pointwise [v137_at, v155_at, v128_at, v59_at, v139_at]
  first
    | rfl
    | (simp only [select_ofBool]; rfl)

/-- The cleared third row's third entry. -/
theorem v161_at : (res_main_v161 V : FVec Ideal _ .f32) (ix5 b 0 z y x) = (cut (rowP V b z y x) (rowC V b z y x)).z := by
  unfold res_main_v161
  clean_types
  pointwise [v137_at, v155_at, v129_at, v41_at, v140_at]
  first
    | rfl
    | (simp only [select_ofBool]; rfl)

/-- The cleared third row's right side. -/
theorem v163_at : (res_main_v163 V : FVec Ideal _ .f32) (ix5 b 0 z y x) = (cut (rowP V b z y x) (rowC V b z y x)).g := by
  unfold res_main_v163
  clean_types
  pointwise [v137_at, v155_at, v130_at, v23_at, v141_at]
  first
    | rfl
    | (simp only [select_ofBool]; rfl)

/-- Whether column 2 exchanges the two rows left. -/
theorem v166_at : (res_main_v166 V : IVec _ 1) (ix5 b 0 z y x) = BitVec.ofBool (decide (mag (cut (rowP V b z y x) (rowB V b z y x)).y < mag (cut (rowP V b z y x) (rowC V b z y x)).y)) := by
  unfold res_main_v166
  clean_types
  pointwise [v159_at, v150_at]
  rfl

/-- Column 2's pivot row. -/
theorem v168_at : (res_main_v168 V : FVec Ideal _ .f32) (ix5 b 0 z y x) = (rowQ V b z y x).y := by
  unfold res_main_v168
  clean_types
  pointwise [v166_at, v159_at, v150_at]
  first
    | rfl
    | (simp only [select_ofBool]; rfl)

/-- Column 2's pivot row: its third entry. -/
theorem v169_at : (res_main_v169 V : FVec Ideal _ .f32) (ix5 b 0 z y x) = (rowQ V b z y x).z := by
  unfold res_main_v169
  clean_types
  pointwise [v166_at, v161_at, v152_at]
  first
    | rfl
    | (simp only [select_ofBool]; rfl)

/-- Column 2's pivot row: its right side. -/
theorem v170_at : (res_main_v170 V : FVec Ideal _ .f32) (ix5 b 0 z y x) = (rowQ V b z y x).g := by
  unfold res_main_v170
  clean_types
  pointwise [v166_at, v163_at, v154_at]
  first
    | rfl
    | (simp only [select_ofBool]; rfl)

/-- The last row's second entry. -/
theorem v172_at : (res_main_v172 V : FVec Ideal _ .f32) (ix5 b 0 z y x) = (rowD V b z y x).y := by
  unfold res_main_v172
  clean_types
  pointwise [v166_at, v150_at, v159_at]
  first
    | rfl
    | (simp only [select_ofBool]; rfl)

/-- The last row's multiplier. -/
theorem v175_at : (res_main_v175 V : FVec Ideal _ .f32) (ix5 b 0 z y x) = Ideal.div (rowD V b z y x).y (rowQ V b z y x).y := by
  unfold res_main_v175
  clean_types
  pointwise [v172_at, v168_at]

/-- The third unknown. -/
theorem v184_at : (res_main_v184 V : FVec Ideal _ .f32) (ix5 b 0 z y x) = (elim (row0 (nbrs (arg V) b z y x)) (row1 (nbrs (arg V) b z y x)) (row2 (nbrs (arg V) b z y x))).2.2 := by
  unfold res_main_v184
  clean_types
  pointwise [v166_at, v154_at, v163_at, v175_at, v170_at, v152_at, v161_at, v169_at]
  first
    | rfl
    | (simp only [select_ofBool]; rfl)

/-- The second unknown. -/
theorem v187_at : (res_main_v187 V : FVec Ideal _ .f32) (ix5 b 0 z y x) = (elim (row0 (nbrs (arg V) b z y x)) (row1 (nbrs (arg V) b z y x)) (row2 (nbrs (arg V) b z y x))).2.1 := by
  unfold res_main_v187
  clean_types
  pointwise [v170_at, v169_at, v184_at, v168_at]
  rfl

/-- The constant the reference fills with is zero. -/
theorem zero_const : id (constant (F := Ideal) S_ .f32 0#32) ix0 = 0 := Ideal.ofBits_zero_f32

/-- Minus the solution at a maximum, zero elsewhere. -/
theorem v194_at : (res_main_v194 V : FVec Ideal _ .f32) (ix5 b 0 z y x) = rn0 (nbrs (arg V) b z y x) (nbrsInf (arg V) b z y x) := by
  unfold res_main_v194
  clean_types
  pointwise [v123_at, v141_at, v139_at, v187_at, v140_at, v184_at, v138_at]
  rw [zero_const]
  rfl

/-- The displacement along the rows before the clipping. -/
theorem v196_at : (res_main_v196 V : FVec Ideal _ .f32) (ix5 b 0 z y x) = rn1 (nbrs (arg V) b z y x) (nbrsInf (arg V) b z y x) := by
  unfold res_main_v196
  clean_types
  pointwise [v123_at, v187_at]
  rw [zero_const]
  rfl

/-- The displacement along the planes before the clipping. -/
theorem v198_at : (res_main_v198 V : FVec Ideal _ .f32) (ix5 b 0 z y x) = rn2 (nbrs (arg V) b z y x) (nbrsInf (arg V) b z y x) := by
  unfold res_main_v198
  clean_types
  pointwise [v123_at, v184_at]
  rw [zero_const]
  rfl

/-- Whether a component is above the limit. -/
theorem v205_at : (res_main_v205 V : IVec _ 1) (ix5 b 0 z y x) = rfar (nbrs (arg V) b z y x) (nbrsInf (arg V) b z y x) := by
  unfold res_main_v205
  clean_types
  pointwise [v194_at, v196_at, v198_at]
  rfl

/-- The displacement's components. -/
theorem v206_at : (res_main_v206 V : FVec Ideal _ .f32) (ix5 b 0 z y x) = rd0 (nbrs (arg V) b z y x) (nbrsInf (arg V) b z y x) := by
  unfold res_main_v206
  clean_types
  pointwise [v205_at, v194_at]
  rw [zero_const]
  rfl

/-- The displacement along the rows. -/
theorem v207_at : (res_main_v207 V : FVec Ideal _ .f32) (ix5 b 0 z y x) = rd1 (nbrs (arg V) b z y x) (nbrsInf (arg V) b z y x) := by
  unfold res_main_v207
  clean_types
  pointwise [v205_at, v196_at]
  rw [zero_const]
  rfl

/-- The displacement along the planes. -/
theorem v208_at : (res_main_v208 V : FVec Ideal _ .f32) (ix5 b 0 z y x) = rd2 (nbrs (arg V) b z y x) (nbrsInf (arg V) b z y x) := by
  unfold res_main_v208
  clean_types
  pointwise [v205_at, v198_at]
  rw [zero_const]
  rfl

end Sample

end Cert.Proof.Reference

end
-- ==== Proof.RefResult.lean ====
/-
  The reference's two results read at an index.
-/
module

public import proofs.«01_k».proof.Proof.RefRead

@[expose] public section

set_option maxRecDepth 16384

noncomputable section

namespace Cert.Proof.Reference

open Idealize.ShloMosaic Cert.Proof Cert.ReferenceIdeal Cert.ReferenceIdeal.Gen Cert.ReferenceIdeal.Value

variable (V : Valuation τ sig (Elt Ideal)) (b : Fin 2) (z : Fin 8) (y x : Fin 256)

/-- One component of the coordinates, before the three are put together. -/
abbrev part (q : FVec Ideal S2x1x8x256x256 .f32) (k : Fin 5) : FVec Ideal S2x1x1x8x256x256 .f32 :=
  broadcastInDim S2x1x1x8x256x256 ![0, 1, 3, 4, 5] bcast_S2x1x8x256x256_S2x1x1x8x256x256_0_1_3_4_5
    (addf (sitofp .f32 (iotaInDim S2x1x8x256x256 32 k)) q)

/-- The coordinates: the three components put together. -/
abbrev coords : FVec Ideal S2x1x3x8x256x256 .f32 :=
  concatenate S2x1x3x8x256x256 2
    [⟨S2x1x1x8x256x256, part (res_main_v208 V) 2⟩, ⟨S2x1x1x8x256x256, part (res_main_v207 V) 3⟩,
      ⟨S2x1x1x8x256x256, part (res_main_v206 V) 4⟩]
    concatenates_S2x1x1x8x256x256_S2x1x1x8x256x256_S2x1x1x8x256x256_S2x1x3x8x256x256_d2

/-- The plane's coordinate. -/
theorem coords_plane : coords V (ix6 b 0 0 z y x) = place z + rd2 (nbrs (arg V) b z y x) (nbrsInf (arg V) b z y x) := by
  pointwise [v208_at]

/-- The row's coordinate. -/
theorem coords_row : coords V (ix6 b 0 1 z y x) = place y + rd1 (nbrs (arg V) b z y x) (nbrsInf (arg V) b z y x) := by
  pointwise [v207_at]

/-- The column's coordinate. -/
theorem coords_column : coords V (ix6 b 0 2 z y x) = place x + rd0 (nbrs (arg V) b z y x) (nbrsInf (arg V) b z y x) := by
  pointwise [v206_at]

/-- The refined values. -/
abbrev values : FVec Ideal S2x1x8x256x256 .f32 :=
  addf (addf (V (Proc.devRef .tc main_arg0)) (mulf (broadcastInDim S2x1x8x256x256 ![] bcast_S_S2x1x8x256x256 (constant S_ .f32 0x3F000000#32)) (addf (addf (mulf (res_main_v13 V) (res_main_v206 V)) (mulf (res_main_v18 V) (res_main_v207 V))) (mulf (res_main_v23 V) (res_main_v208 V))))) (mulf (broadcastInDim S2x1x8x256x256 ![] bcast_S_S2x1x8x256x256 (constant S_ .f32 0x41200000#32)) (uitofp .f32 (res_main_v123 V)))

/-- The refined value of a sample. -/
theorem values_at : values V (ix5 b 0 z y x) = ry (nbrs (arg V) b z y x) (nbrsInf (arg V) b z y x) := by
  pointwise [v13_at, v18_at, v23_at, v123_at, v206_at, v207_at, v208_at]
  rw [show (V (Proc.devRef .tc main_arg0) : FVec Ideal _ .f32) (ix5 b 0 z y x) = _ from arg_at V b z y x]
  rfl

end Cert.Proof.Reference

end
-- ==== Proof.Finite.lean ====
/-
  The precondition read back: every sample is a real number.
-/
module

public import proofs.«01_k».proof.Proof.Volume
public import proofs.«01_k».proof.Proof.Gen.Pre_finite
public import Idealize.ShloMosaic.Lib.ReduceAll

@[expose] public section

noncomputable section

namespace Cert.Proof

open Idealize.ShloMosaic

/-- An extended real of absolute value below +∞ is a real. -/
theorem real_of_abs_lt (x : EReal) (h : max x (-x) < ⊤) : ∃ u : ℝ, x = u := by
  induction x using EReal.rec with
  | bot => simp at h
  | top => simp at h
  | coe u => exact ⟨u, rfl⟩

/-- A volume the precondition accepts has real samples. -/
theorem finite_reals (A : Vol) (h : Cert.Pre_finite.fn (F := Ideal) A = fun _ => 1#1) (j) : ∃ u : ℝ, A j = u := by
  haveI : Subsingleton Cert.Pre_finite.S_.Idx := ⟨fun p q => funext fun a => a.elim0⟩
  have h1 := Host.reduce_andi_all _ _ _ _ _ (congrFun h (fun a => a.elim0)) j
  apply real_of_abs_lt
  rw [← cPosInf_eq]
  exact (Ideal.cmp_olt_eq_one _ _).1 h1

end Cert.Proof

end
-- ==== Proof.Equal.lean ====
/-
  The equation: where the argument is real, the reference's two results are the kernel's two arrays.
-/
module

public import proofs.«01_k».proof.Proof.Arrays
public import proofs.«01_k».proof.Proof.RefResult
public import proofs.«01_k».proof.Proof.Finite

@[expose] public section

noncomputable section

namespace Cert.Proof.Equal

open Idealize.ShloMosaic Idealize.ShloMosaic.TcCoe Cert.Proof Cert.KernelIdeal Cert.KernelIdeal.Gen Cert.KernelIdeal.Value

variable (m : (ℓ : Loc Cert.KernelIdeal.nD Cert.KernelIdeal.τ Cert.KernelIdeal.sig) → Buf (Elt Ideal) ℓ)
  (c : Dev Cert.KernelIdeal.nD)
  (V : Valuation Cert.ReferenceIdeal.τ Cert.ReferenceIdeal.sig (Elt Ideal))
  (hV : Reference.arg V = Arrays.arg m c) (hA : ∀ j, ∃ u : ℝ, Arrays.arg m c j = u)
include hV hA

/-- The coordinates. -/
theorem coords : Reference.coords V = ((dats m 0 c).arrAt 3 cfg0.N : FVec Ideal Cert.KernelIdeal.S2x1x3x8x256x256 .f32) := by
  funext j
  obtain ⟨b, o, k, z, y, x, rfl⟩ : ∃ (b : Fin 2) (o : Fin 1) (k : Fin 3) (z : Fin 8) (y x : Fin 256), j = ix6 b o k z y x :=
    ⟨j 0, j 1, j 2, j 3, j 4, j 5, by funext a; fin_cases a <;> rfl⟩
  obtain rfl : o = 0 := Subsingleton.elim _ _
  have hR := nbrs_reals _ hA b z y x
  match k with
  | 0 => rw [Reference.coords_plane, Arrays.coords_plane, hV, d2_eq _ _ hR]
  | 1 => rw [Reference.coords_row, Arrays.coords_row, hV, d1_eq _ _ hR]
  | 2 => rw [Reference.coords_column, Arrays.coords_column, hV, d0_eq _ _ hR]

/-- The refined values. -/
theorem values : Reference.values V = ((dats m 0 c).arrAt 4 cfg0.N : FVec Ideal Cert.KernelIdeal.S2x1x8x256x256 .f32) := by
  funext j
  obtain ⟨b, o, z, y, x, rfl⟩ : ∃ (b : Fin 2) (o : Fin 1) (z : Fin 8) (y x : Fin 256), j = ix5 b o z y x :=
    ⟨j 0, j 1, j 2, j 3, j 4, by funext a; fin_cases a <;> rfl⟩
  obtain rfl : o = 0 := Subsingleton.elim _ _
  rw [Reference.values_at, Arrays.value, hV, y_eq _ _ (nbrs_reals _ hA b z y x)]

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel leaves its argument and ends with every counter at zero, at its printed formats. -/
theorem frame_p : Cert.quiescent_Kernel := fun m ρ _ => Cert.Kernel.Gen.frame m ρ

/-- The same over the extended reals. -/
theorem frame_pi : Cert.quiescent_KernelIdeal := fun m ρ _ => Cert.KernelIdeal.Gen.frame m ρ

/-- The same from the memories the precondition accepts. -/
theorem frame_pi_finite : Cert.quiescent_KernelIdeal_pre_finite := fun m ρ _ => Cert.KernelIdeal.Gen.frame m ρ

/-- The reference leaves its argument; it declares no counter. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The same from the memories the precondition accepts. -/
theorem frame_ri_finite : Cert.quiescent_ReferenceIdeal_pre_finite := fun m ρ _ => frame_ri m ρ trivial

/-- The idealized kernel is the kernel's own text: no operation was replaced. -/
theorem preserves : Cert.preserves_Kernel_KernelIdeal := trivial

/-- Kernel and reference end with equal coordinates and equal refined values. -/
theorem algebraic : Cert.algebraic_KernelIdeal_ReferenceIdeal_pre_finite := by
  intro m g m' g' hpre harg
  refine ⟨fun c => (Cert.KernelIdeal.Gen.dats m 0 c).arrAt 3 Cert.KernelIdeal.cfg0.N,
    fun c => (Cert.KernelIdeal.Gen.dats m 0 c).arrAt 4 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h0, h1, h2⟩ := h c
  have hA := finite_reals (Arrays.arg m c) (hpre c)
  exact ⟨h0.trans (Equal.coords m c _ (harg c) hA), h1.trans (Equal.values m c _ (harg c) hA), h2⟩

/-- All the claims. -/
theorem claim : Cert.Claim := ⟨Cert.Kernel.Gen.facts, Cert.KernelIdeal.Gen.facts, Cert.ReferenceIdeal.Gen.facts,
  Cert.Pre_finite.Gen.facts, frame_p, frame_pi, frame_pi_finite, frame_ri, frame_ri_finite, preserves, algebraic⟩

end Cert.Proof

end
